-- ==== Defs.lean ====
def Pre_Linear (m : (ℓ : Loc Cert.Linear.nD Cert.Linear.τ Cert.Linear.sig) → Buf (Elt Bits) ℓ) : Prop :=
  True

def Pre_LinearIdeal (m : (ℓ : Loc Cert.LinearIdeal.nD Cert.LinearIdeal.τ Cert.LinearIdeal.sig) → Buf (Elt Ideal) ℓ) : Prop :=
  True

def Pre_LinearReferenceIdeal (m : (ℓ : Loc Cert.LinearReferenceIdeal.nD Cert.LinearReferenceIdeal.τ Cert.LinearReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectIdeal_tame [hPre_tame : Cert.Pre_tame.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_tame.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1))).1 = (fun _ => 1#1)
    ∧ (Cert.Pre_tame.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1))).2 = (fun _ => 1#1)

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectReferenceIdeal_tame [hPre_tame : Cert.Pre_tame.Facts] (m : (ℓ : Loc Cert.ProjectReferenceIdeal.nD Cert.ProjectReferenceIdeal.τ Cert.ProjectReferenceIdeal.sig) → Buf (Elt Ideal) ℓ) : Prop :=
  ∀ c : Dev Cert.ProjectReferenceIdeal.nD,
    (Cert.Pre_tame.fn (F := Ideal) (m ((c.tc : Thread Cert.ProjectReferenceIdeal.nD Cert.ProjectReferenceIdeal.τ).loc Cert.ProjectReferenceIdeal.main_arg0)) (m ((c.tc : Thread Cert.ProjectReferenceIdeal.nD Cert.ProjectReferenceIdeal.τ).loc Cert.ProjectReferenceIdeal.main_arg1))).1 = (fun _ => 1#1)
    ∧ (Cert.Pre_tame.fn (F := Ideal) (m ((c.tc : Thread Cert.ProjectReferenceIdeal.nD Cert.ProjectReferenceIdeal.τ).loc Cert.ProjectReferenceIdeal.main_arg0)) (m ((c.tc : Thread Cert.ProjectReferenceIdeal.nD Cert.ProjectReferenceIdeal.τ).loc Cert.ProjectReferenceIdeal.main_arg1))).2 = (fun _ => 1#1)

def quiescent_Linear [hLinear : Cert.Linear.Facts] : Prop :=
  ∀ (m : (ℓ : Loc Cert.Linear.nD Cert.Linear.τ Cert.Linear.sig) → Buf (Elt Bits) ℓ) (g : Dev Cert.Linear.nD → PrngReg), Pre_Linear m →
    θ_run (Cert.Linear.defs (F := Bits)) (onTc (τ := Cert.Linear.τ) (Cert.Linear.main (F := Bits))) ⟨m, fun _ => 0, g⟩ (fun r => (∀ c : Dev Cert.Linear.nD,
      r.2.mem ((c.tc : Thread Cert.Linear.nD Cert.Linear.τ).loc Cert.Linear.main_arg0) = m ((c.tc : Thread Cert.Linear.nD Cert.Linear.τ).loc Cert.Linear.main_arg0)
      ∧ r.2.mem ((c.tc : Thread Cert.Linear.nD Cert.Linear.τ).loc Cert.Linear.main_arg1) = m ((c.tc : Thread Cert.Linear.nD Cert.Linear.τ).loc Cert.Linear.main_arg1)
      ∧ r.2.mem ((c.tc : Thread Cert.Linear.nD Cert.Linear.τ).loc Cert.Linear.main_arg2) = m ((c.tc : Thread Cert.Linear.nD Cert.Linear.τ).loc Cert.Linear.main_arg2))
      ∧ r.2.sem = fun _ => 0)

def quiescent_LinearIdeal [hLinearIdeal : Cert.LinearIdeal.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
      ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2))
      ∧ r.2.sem = fun _ => 0)

def quiescent_LinearReferenceIdeal [hLinearReferenceIdeal : Cert.LinearReferenceIdeal.Facts] : Prop :=
  ∀ (m : (ℓ : Loc Cert.LinearReferenceIdeal.nD Cert.LinearReferenceIdeal.τ Cert.LinearReferenceIdeal.sig) → Buf (Elt Ideal) ℓ) (g : Dev Cert.LinearReferenceIdeal.nD → PrngReg), Pre_LinearReferenceIdeal m →
    θ_run (Cert.LinearReferenceIdeal.defs (F := Ideal)) (onTc (τ := Cert.LinearReferenceIdeal.τ) (Cert.LinearReferenceIdeal.main (F := Ideal))) ⟨m, fun _ => 0, g⟩ (fun r => (∀ c : Dev Cert.LinearReferenceIdeal.nD,
      r.2.mem ((c.tc : Thread Cert.LinearReferenceIdeal.nD Cert.LinearReferenceIdeal.τ).loc Cert.LinearReferenceIdeal.main_arg0) = m ((c.tc : Thread Cert.LinearReferenceIdeal.nD Cert.LinearReferenceIdeal.τ).loc Cert.LinearReferenceIdeal.main_arg0)
      ∧ r.2.mem ((c.tc : Thread Cert.LinearReferenceIdeal.nD Cert.LinearReferenceIdeal.τ).loc Cert.LinearReferenceIdeal.main_arg1) = m ((c.tc : Thread Cert.LinearReferenceIdeal.nD Cert.LinearReferenceIdeal.τ).loc Cert.LinearReferenceIdeal.main_arg1)
      ∧ r.2.mem ((c.tc : Thread Cert.LinearReferenceIdeal.nD Cert.LinearReferenceIdeal.τ).loc Cert.LinearReferenceIdeal.main_arg2) = m ((c.tc : Thread Cert.LinearReferenceIdeal.nD Cert.LinearReferenceIdeal.τ).loc Cert.LinearReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectIdeal_pre_tame [hProjectIdeal : Cert.ProjectIdeal.Facts] [hPre_tame : Cert.Pre_tame.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_tame m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_ProjectReferenceIdeal_pre_tame [hProjectReferenceIdeal : Cert.ProjectReferenceIdeal.Facts] [hPre_tame : Cert.Pre_tame.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal_tame m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def preserves_Linear_LinearIdeal : Prop :=
  True

def algebraic_LinearIdeal_LinearReferenceIdeal [hLinearIdeal : Cert.LinearIdeal.Facts] [hLinearReferenceIdeal : Cert.LinearReferenceIdeal.Facts] : Prop :=
  ∀ (m : (ℓ : Loc Cert.LinearIdeal.nD Cert.LinearIdeal.τ Cert.LinearIdeal.sig) → Buf (Elt Ideal) ℓ) (g : Dev Cert.LinearIdeal.nD → PrngReg)
    (m' : (ℓ : Loc Cert.LinearReferenceIdeal.nD Cert.LinearReferenceIdeal.τ Cert.LinearReferenceIdeal.sig) → Buf (Elt Ideal) ℓ) (g' : Dev Cert.LinearReferenceIdeal.nD → PrngReg), Pre_LinearIdeal m →
    (∀ c : Dev Cert.LinearIdeal.nD,
      m' ((c.tc : Thread Cert.LinearReferenceIdeal.nD Cert.LinearReferenceIdeal.τ).loc Cert.LinearReferenceIdeal.main_arg0) = m ((c.tc : Thread Cert.LinearIdeal.nD Cert.LinearIdeal.τ).loc Cert.LinearIdeal.main_arg0)
      ∧ m' ((c.tc : Thread Cert.LinearReferenceIdeal.nD Cert.LinearReferenceIdeal.τ).loc Cert.LinearReferenceIdeal.main_arg1) = m ((c.tc : Thread Cert.LinearIdeal.nD Cert.LinearIdeal.τ).loc Cert.LinearIdeal.main_arg1)
      ∧ m' ((c.tc : Thread Cert.LinearReferenceIdeal.nD Cert.LinearReferenceIdeal.τ).loc Cert.LinearReferenceIdeal.main_arg2) = m ((c.tc : Thread Cert.LinearIdeal.nD Cert.LinearIdeal.τ).loc Cert.LinearIdeal.main_arg2)) →
    ∃ (v0 : (c : Dev Cert.LinearIdeal.nD) → Buf (Elt Ideal) ((c.tc : Thread Cert.LinearIdeal.nD Cert.LinearIdeal.τ).loc Cert.LinearIdeal.main_v0)),
      θ_run (Cert.LinearIdeal.defs (F := Ideal)) (onTc (τ := Cert.LinearIdeal.τ) (Cert.LinearIdeal.main (F := Ideal))) ⟨m, fun _ => 0, g⟩ (fun r => ∀ c : Dev Cert.LinearIdeal.nD,
          r.2.mem ((c.tc : Thread Cert.LinearIdeal.nD Cert.LinearIdeal.τ).loc Cert.LinearIdeal.main_v0) = v0 c
          ∧ r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
          ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
          ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2))
      ∧ θ_run (Cert.LinearReferenceIdeal.defs (F := Ideal)) (onTc (τ := Cert.LinearReferenceIdeal.τ) (Cert.LinearReferenceIdeal.main (F := Ideal))) ⟨m', fun _ => 0, g'⟩ (fun r => ∀ c : Dev Cert.LinearReferenceIdeal.nD,
          r.2.mem ((c.tc : Thread Cert.LinearReferenceIdeal.nD Cert.LinearReferenceIdeal.τ).loc Cert.LinearReferenceIdeal.main_v35) = v0 c
          ∧ r.2.mem ((c.tc : Thread Cert.LinearReferenceIdeal.nD Cert.LinearReferenceIdeal.τ).loc Cert.LinearReferenceIdeal.main_arg0) = m' ((c.tc : Thread Cert.LinearReferenceIdeal.nD Cert.LinearReferenceIdeal.τ).loc Cert.LinearReferenceIdeal.main_arg0)
          ∧ r.2.mem ((c.tc : Thread Cert.LinearReferenceIdeal.nD Cert.LinearReferenceIdeal.τ).loc Cert.LinearReferenceIdeal.main_arg1) = m' ((c.tc : Thread Cert.LinearReferenceIdeal.nD Cert.LinearReferenceIdeal.τ).loc Cert.LinearReferenceIdeal.main_arg1)
          ∧ r.2.mem ((c.tc : Thread Cert.LinearReferenceIdeal.nD Cert.LinearReferenceIdeal.τ).loc Cert.LinearReferenceIdeal.main_arg2) = m' ((c.tc : Thread Cert.LinearReferenceIdeal.nD Cert.LinearReferenceIdeal.τ).loc Cert.LinearReferenceIdeal.main_arg2))

def preserves_Project_ProjectIdeal : Prop :=
  True

def algebraic_ProjectIdeal_ProjectReferenceIdeal_pre_tame [hProjectIdeal : Cert.ProjectIdeal.Facts] [hProjectReferenceIdeal : Cert.ProjectReferenceIdeal.Facts] [hPre_tame : Cert.Pre_tame.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal_tame m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v41) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def Claim : Prop :=
  ∃ (hLinear : Cert.Linear.Facts) (hLinearIdeal : Cert.LinearIdeal.Facts) (hLinearReferenceIdeal : Cert.LinearReferenceIdeal.Facts) (hProject : Cert.Project.Facts) (hProjectIdeal : Cert.ProjectIdeal.Facts) (hProjectReferenceIdeal : Cert.ProjectReferenceIdeal.Facts) (hPre_tame : Cert.Pre_tame.Facts),
    quiescent_Linear (hLinear := hLinear)
    ∧ quiescent_LinearIdeal (hLinearIdeal := hLinearIdeal)
    ∧ quiescent_LinearReferenceIdeal (hLinearReferenceIdeal := hLinearReferenceIdeal)
    ∧ quiescent_Project (hProject := hProject)
    ∧ quiescent_ProjectIdeal (hProjectIdeal := hProjectIdeal)
    ∧ quiescent_ProjectIdeal_pre_tame (hProjectIdeal := hProjectIdeal) (hPre_tame := hPre_tame)
    ∧ quiescent_ProjectReferenceIdeal (hProjectReferenceIdeal := hProjectReferenceIdeal)
    ∧ quiescent_ProjectReferenceIdeal_pre_tame (hProjectReferenceIdeal := hProjectReferenceIdeal) (hPre_tame := hPre_tame)
    ∧ preserves_Linear_LinearIdeal
    ∧ algebraic_LinearIdeal_LinearReferenceIdeal (hLinearIdeal := hLinearIdeal) (hLinearReferenceIdeal := hLinearReferenceIdeal)
    ∧ preserves_Project_ProjectIdeal
    ∧ algebraic_ProjectIdeal_ProjectReferenceIdeal_pre_tame (hProjectIdeal := hProjectIdeal) (hProjectReferenceIdeal := hProjectReferenceIdeal) (hPre_tame := hPre_tame)
-- ==== Pre_tame.lean ====
abbrev S20x3584 : Shape := ⟨2, ![20, 3584]⟩
abbrev S12288x3584 : Shape := ⟨2, ![12288, 3584]⟩
abbrev S_ : Shape := ⟨0, ![]⟩
abbrev S20 : Shape := ⟨1, ![20]⟩

class Facts : Prop where
  bcast_S_S12288x3584 : S_.BroadcastsInDim S12288x3584 (![] : Fin 0 → Fin S12288x3584.rank)
  reducesTo_S20x3584_S20_d1 : S20x3584.ReducesTo [1] S20
  h_S_ : 0 < S_.numel
  bcast_S_S20 : S_.BroadcastsInDim S20 (![] : Fin 0 → Fin S20.rank)

variable [Facts]

def fn {F : FTy → Type} [FloatOps F] (main_arg0 : FVec F S20x3584 .f32) (main_arg1 : FVec F S12288x3584 .bf16) : IVec S12288x3584 1 × IVec S20 1 :=
  let main_v0 : FVec F S12288x3584 .bf16 := Host.absf main_arg1
  let main_cst : FVec F S_ .bf16 := constant S_ .bf16 0x7F80#16
  let main_v1 : FVec F S12288x3584 .bf16 := broadcastInDim S12288x3584 ![] bcast_S_S12288x3584 main_cst
  let main_v2 : IVec S12288x3584 1 := cmpf .olt main_v0 main_v1
  let main_v3 : FVec F S20x3584 .f32 := mulf main_arg0 main_arg0
  let main_cst_0 : FVec F S_ .f32 := constant S_ .f32 0x00000000#32
  let main_v4 : FVec F S20 .f32 := (fun x v => Host.reduceAdd x v reducesTo_S20x3584_S20_d1 h_S_) main_v3 main_cst_0
  let main_cst_1 : FVec F S_ .f32 := constant S_ .f32 0x00000000#32
  let main_v5 : FVec F S20 .f32 := broadcastInDim S20 ![] bcast_S_S20 main_cst_1
  let main_v6 : IVec S20 1 := cmpf .ogt main_v4 main_v5
  (main_v2, main_v6)
-- ==== Linear.lean ====
abbrev S12288x3584 : Shape := ⟨2, ![12288, 3584]⟩
abbrev S3584x9472 : Shape := ⟨2, ![3584, 9472]⟩
abbrev S28x18944 : Shape := ⟨2, ![28, 18944]⟩
abbrev S12288x18944 : Shape := ⟨2, ![12288, 18944]⟩
abbrev S1024x3584 : Shape := ⟨2, ![1024, 3584]⟩
abbrev S3584x256 : Shape := ⟨2, ![3584, 256]⟩
abbrev S28x512 : Shape := ⟨2, ![28, 512]⟩
abbrev S1024x512 : Shape := ⟨2, ![1024, 512]⟩
abbrev S3584x512 : Shape := ⟨2, ![3584, 512]⟩
abbrev S32x128 : Shape := ⟨2, ![32, 128]⟩
abbrev S128x128 : Shape := ⟨2, ![128, 128]⟩
abbrev S32x128x1 : Shape := ⟨3, ![32, 128, 1]⟩
abbrev S1x128 : Shape := ⟨2, ![1, 128]⟩

abbrev nBuf : Space → Nat
  | .hbm => 4
  | .vmem => 9
  | .smem => 0
  | _ => 0

abbrev bufTy : (tb : Table) → Fin (tcTables nBuf tb) → BufTy
  | .hbm, ⟨0, _⟩ => ⟨S12288x3584, .bf16⟩
  | .hbm, ⟨1, _⟩ => ⟨S3584x9472, .i8⟩
  | .hbm, ⟨2, _⟩ => ⟨S28x18944, .bf16⟩
  | .hbm, ⟨3, _⟩ => ⟨S12288x18944, .bf16⟩
  | .local _ .vmem, ⟨0, _⟩ => ⟨S1024x3584, .bf16⟩
  | .local _ .vmem, ⟨1, _⟩ => ⟨S1024x3584, .bf16⟩
  | .local _ .vmem, ⟨2, _⟩ => ⟨S3584x256, .i8⟩
  | .local _ .vmem, ⟨3, _⟩ => ⟨S3584x256, .i8⟩
  | .local _ .vmem, ⟨4, _⟩ => ⟨S28x512, .bf16⟩
  | .local _ .vmem, ⟨5, _⟩ => ⟨S28x512, .bf16⟩
  | .local _ .vmem, ⟨6, _⟩ => ⟨S1024x512, .bf16⟩
  | .local _ .vmem, ⟨7, _⟩ => ⟨S1024x512, .bf16⟩
  | .local _ .vmem, ⟨8, _⟩ => ⟨S3584x512, .bf16⟩
  | _, _ => ⟨S12288x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![37, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3584x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S28x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LinearReferenceIdeal.lean ====
abbrev S12288x3584 : Shape := ⟨2, ![12288, 3584]⟩
abbrev S3584x9472 : Shape := ⟨2, ![3584, 9472]⟩
abbrev S28x18944 : Shape := ⟨2, ![28, 18944]⟩
abbrev S_ : Shape := ⟨0, ![]⟩
abbrev S28x128x9472 : Shape := ⟨3, ![28, 128, 9472]⟩
abbrev S28x9472 : Shape := ⟨2, ![28, 9472]⟩
abbrev S28x1x9472 : Shape := ⟨3, ![28, 1, 9472]⟩
abbrev S12288x9472 : Shape := ⟨2, ![12288, 9472]⟩
abbrev S12288x9472x1 : Shape := ⟨3, ![12288, 9472, 1]⟩
abbrev S12288x9472x2 : Shape := ⟨3, ![12288, 9472, 2]⟩
abbrev S12288x18944 : Shape := ⟨2, ![12288, 18944]⟩

abbrev nBuf : Space → Nat
  | .hbm => 45
  | .vmem => 0
  | .smem => 0
  | _ => 0

abbrev bufTy : (tb : Table) → Fin (tcTables nBuf tb) → BufTy
  | .hbm, ⟨0, _⟩ => ⟨S12288x3584, .bf16⟩
  | .hbm, ⟨1, _⟩ => ⟨S3584x9472, .i8⟩
  | .hbm, ⟨2, _⟩ => ⟨S28x18944, .bf16⟩
  | .hbm, ⟨3, _⟩ => ⟨S3584x9472, .i32⟩
  | .hbm, ⟨4, _⟩ => ⟨S_, .i32⟩
  | .hbm, ⟨5, _⟩ => ⟨S3584x9472, .i32⟩
  | .hbm, ⟨6, _⟩ => ⟨S3584x9472, .i32⟩
  | .hbm, ⟨7, _⟩ => ⟨S_, .i32⟩
  | .hbm, ⟨8, _⟩ => ⟨S3584x9472, .i32⟩
  | .hbm, ⟨9, _⟩ => ⟨S3584x9472, .i1⟩
  | .hbm, ⟨10, _⟩ => ⟨S_, .i32⟩
  | .hbm, ⟨11, _⟩ => ⟨S3584x9472, .i32⟩
  | .hbm, ⟨12, _⟩ => ⟨S3584x9472, .i32⟩
  | .hbm, ⟨13, _⟩ => ⟨S3584x9472, .i32⟩
  | .hbm, ⟨14, _⟩ => ⟨S3584x9472, .bf16⟩
  | .hbm, ⟨15, _⟩ => ⟨S_, .i32⟩
  | .hbm, ⟨16, _⟩ => ⟨S3584x9472, .i32⟩
  | .hbm, ⟨17, _⟩ => ⟨S3584x9472, .i32⟩
  | .hbm, ⟨18, _⟩ => ⟨S_, .i32⟩
  | .hbm, ⟨19, _⟩ => ⟨S3584x9472, .i32⟩
  | .hbm, ⟨20, _⟩ => ⟨S3584x9472, .i1⟩
  | .hbm, ⟨21, _⟩ => ⟨S_, .i32⟩
  | .hbm, ⟨22, _⟩ => ⟨S3584x9472, .i32⟩
  | .hbm, ⟨23, _⟩ => ⟨S3584x9472, .i32⟩
  | .hbm, ⟨24, _⟩ => ⟨S3584x9472, .i32⟩
  | .hbm, ⟨25, _⟩ => ⟨S3584x9472, .bf16⟩
  | .hbm, ⟨26, _⟩ => ⟨S28x128x9472, .bf16⟩
  | .hbm, ⟨27, _⟩ => ⟨S28x9472, .bf16⟩
  | .hbm, ⟨28, _⟩ => ⟨S28x1x9472, .bf16⟩
  | .hbm, ⟨29, _⟩ => ⟨S28x128x9472, .bf16⟩
  | .hbm, ⟨30, _⟩ => ⟨S28x128x9472, .bf16⟩
  | .hbm, ⟨31, _⟩ => ⟨S3584x9472, .bf16⟩
  | .hbm, ⟨32, _⟩ => ⟨S28x128x9472, .bf16⟩
  | .hbm, ⟨33, _⟩ => ⟨S28x9472, .bf16⟩
  | .hbm, ⟨34, _⟩ => ⟨S28x1x9472, .bf16⟩
  | .hbm, ⟨35, _⟩ => ⟨S28x128x9472, .bf16⟩
  | .hbm, ⟨36, _⟩ => ⟨S28x128x9472, .bf16⟩
  | .hbm, ⟨37, _⟩ => ⟨S3584x9472, .bf16⟩
  | .hbm, ⟨38, _⟩ => ⟨S12288x9472, .f32⟩
  | .hbm, ⟨39, _⟩ => ⟨S12288x9472, .f32⟩
  | .hbm, ⟨40, _⟩ => ⟨S12288x9472x1, .f32⟩
  | .hbm, ⟨41, _⟩ => ⟨S12288x9472x1, .f32⟩
  | .hbm, ⟨42, _⟩ => ⟨S12288x9472x2, .f32⟩
  | .hbm, ⟨43, _⟩ => ⟨S12288x18944, .f32⟩
  | .hbm, ⟨44, _⟩ => ⟨S12288x18944, .bf16⟩
  | _, _ => ⟨S12288x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Project.lean ====
abbrev S20x3584 : Shape := ⟨2, ![20, 3584]⟩
abbrev S12288x3584 : Shape := ⟨2, ![12288, 3584]⟩
abbrev S512x3584 : Shape := ⟨2, ![512, 3584]⟩
abbrev S24x3584 : Shape := ⟨2, ![24, 3584]⟩
abbrev S256x3584 : Shape := ⟨2, ![256, 3584]⟩
abbrev S20 : Shape := ⟨1, ![20]⟩
abbrev S20x1 : Shape := ⟨2, ![20, 1]⟩
abbrev S24x24 : Shape := ⟨2, ![24, 24]⟩
abbrev S24x1 : Shape := ⟨2, ![24, 1]⟩
abbrev S1x3584 : Shape := ⟨2, ![1, 3584]⟩
abbrev S16x256 : Shape := ⟨2, ![16, 256]⟩
abbrev S24x256 : Shape := ⟨2, ![24, 256]⟩
abbrev S256x256 : Shape := ⟨2, ![256, 256]⟩
abbrev S512x256 : Shape := ⟨2, ![512, 256]⟩
abbrev S512x512 : Shape := ⟨2, ![512, 512]⟩
abbrev S256x512 : Shape := ⟨2, ![256, 512]⟩

abbrev nBuf : Space → Nat
  | .hbm => 3
  | .vmem => 9
  | .smem => 0
  | _ => 0

abbrev bufTy : (tb : Table) → Fin (tcTables nBuf tb) → BufTy
  | .hbm, ⟨0, _⟩ => ⟨S20x3584, .f32⟩
  | .hbm, ⟨1, _⟩ => ⟨S12288x3584, .bf16⟩
  | .hbm, ⟨2, _⟩ => ⟨S12288x3584, .bf16⟩
  | .local _ .vmem, ⟨0, _⟩ => ⟨S20x3584, .f32⟩
  | .local _ .vmem, ⟨1, _⟩ => ⟨S512x3584, .bf16⟩
  | .local _ .vmem, ⟨2, _⟩ => ⟨S512x3584, .bf16⟩
  | .local _ .vmem, ⟨3, _⟩ => ⟨S512x3584, .bf16⟩
  | .local _ .vmem, ⟨4, _⟩ => ⟨S512x3584, .bf16⟩
  | .local _ .vmem, ⟨5, _⟩ => ⟨S24x3584, .f32⟩
  | .local _ .vmem, ⟨6, _⟩ => ⟨S24x3584, .f32⟩
  | .local _ .vmem, ⟨7, _⟩ => ⟨S256x3584, .bf16⟩
  | .local _ .vmem, ⟨8, _⟩ => ⟨S256x3584, .bf16⟩
  | _, _ => ⟨S20x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S20x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjectReferenceIdeal.lean ====
abbrev S20x3584 : Shape := ⟨2, ![20, 3584]⟩
abbrev S12288x3584 : Shape := ⟨2, ![12288, 3584]⟩
abbrev S_ : Shape := ⟨0, ![]⟩
abbrev S20 : Shape := ⟨1, ![20]⟩
abbrev S20x1 : Shape := ⟨2, ![20, 1]⟩
abbrev S3584x20 : Shape := ⟨2, ![3584, 20]⟩
abbrev S20x20 : Shape := ⟨2, ![20, 20]⟩
abbrev S12288x20 : Shape := ⟨2, ![12288, 20]⟩

abbrev nBuf : Space → Nat
  | .hbm => 84
  | .vmem => 0
  | .smem => 0
  | _ => 0

abbrev bufTy : (tb : Table) → Fin (tcTables nBuf tb) → BufTy
  | .hbm, ⟨0, _⟩ => ⟨S20x3584, .f32⟩
  | .hbm, ⟨1, _⟩ => ⟨S12288x3584, .bf16⟩
  | .hbm, ⟨2, _⟩ => ⟨S20x3584, .f32⟩
  | .hbm, ⟨3, _⟩ => ⟨S_, .f32⟩
  | .hbm, ⟨4, _⟩ => ⟨S20, .f32⟩
  | .hbm, ⟨5, _⟩ => ⟨S20x1, .f32⟩
  | .hbm, ⟨6, _⟩ => ⟨S20x1, .f32⟩
  | .hbm, ⟨7, _⟩ => ⟨S20x3584, .f32⟩
  | .hbm, ⟨8, _⟩ => ⟨S20x3584, .f32⟩
  | .hbm, ⟨9, _⟩ => ⟨S3584x20, .f32⟩
  | .hbm, ⟨10, _⟩ => ⟨S20x20, .f32⟩
  | .hbm, ⟨11, _⟩ => ⟨S20x20, .i32⟩
  | .hbm, ⟨12, _⟩ => ⟨S20x20, .i32⟩
  | .hbm, ⟨13, _⟩ => ⟨S_, .i32⟩
  | .hbm, ⟨14, _⟩ => ⟨S20x20, .i32⟩
  | .hbm, ⟨15, _⟩ => ⟨S20x20, .i32⟩
  | .hbm, ⟨16, _⟩ => ⟨S20x20, .i1⟩
  | .hbm, ⟨17, _⟩ => ⟨S20x20, .f32⟩
  | .hbm, ⟨18, _⟩ => ⟨S_, .f32⟩
  | .hbm, ⟨19, _⟩ => ⟨S20x20, .f32⟩
  | .hbm, ⟨20, _⟩ => ⟨S20x20, .f32⟩
  | .hbm, ⟨21, _⟩ => ⟨S20x20, .i32⟩
  | .hbm, ⟨22, _⟩ => ⟨S_, .i32⟩
  | .hbm, ⟨23, _⟩ => ⟨S20x20, .i32⟩
  | .hbm, ⟨24, _⟩ => ⟨S20x20, .i32⟩
  | .hbm, ⟨25, _⟩ => ⟨S20x20, .i32⟩
  | .hbm, ⟨26, _⟩ => ⟨S20x20, .i1⟩
  | .hbm, ⟨27, _⟩ => ⟨S_, .f32⟩
  | .hbm, ⟨28, _⟩ => ⟨S20x20, .f32⟩
  | .hbm, ⟨29, _⟩ => ⟨S20x20, .f32⟩
  | .hbm, ⟨30, _⟩ => ⟨S20x20, .f32⟩
  | .hbm, ⟨31, _⟩ => ⟨S20x20, .i32⟩
  | .hbm, ⟨32, _⟩ => ⟨S20x20, .i32⟩
  | .hbm, ⟨33, _⟩ => ⟨S_, .i32⟩
  | .hbm, ⟨34, _⟩ => ⟨S20x20, .i32⟩
  | .hbm, ⟨35, _⟩ => ⟨S20x20, .i32⟩
  | .hbm, ⟨36, _⟩ => ⟨S20x20, .i1⟩
  | .hbm, ⟨37, _⟩ => ⟨S20x20, .f32⟩
  | .hbm, ⟨38, _⟩ => ⟨S20x20, .f32⟩
  | .hbm, ⟨39, _⟩ => ⟨S_, .f32⟩
  | .hbm, ⟨40, _⟩ => ⟨S20, .f32⟩
  | .hbm, ⟨41, _⟩ => ⟨S20x1, .f32⟩
  | .hbm, ⟨42, _⟩ => ⟨S20x1, .i32⟩
  | .hbm, ⟨43, _⟩ => ⟨S_, .f32⟩
  | .hbm, ⟨44, _⟩ => ⟨S20x20, .f32⟩
  | .hbm, ⟨45, _⟩ => ⟨S_, .i32⟩
  | .hbm, ⟨46, _⟩ => ⟨S_, .i32⟩
  | .hbm, ⟨47, _⟩ => ⟨S20x1, .i32⟩
  | .hbm, ⟨48, _⟩ => ⟨S20x20, .f32⟩
  | .hbm, ⟨49, _⟩ => ⟨S20x20, .f32⟩
  | .hbm, ⟨50, _⟩ => ⟨S20x1, .f32⟩
  | .hbm, ⟨51, _⟩ => ⟨S_, .i32⟩
  | .hbm, ⟨52, _⟩ => ⟨S_, .i32⟩
  | .hbm, ⟨53, _⟩ => ⟨S20x20, .f32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S20x1, .i32⟩
  | .hbm, ⟨62, _⟩ => ⟨S20x1, .i1⟩
  | .hbm, ⟨63, _⟩ => ⟨S20x20, .f32⟩
  | .hbm, ⟨64, _⟩ => ⟨S20x20, .f32⟩
  | .hbm, ⟨65, _⟩ => ⟨S20x20, .f32⟩
  | .hbm, ⟨66, _⟩ => ⟨S20x20, .f32⟩
  | .hbm, ⟨67, _⟩ => ⟨S20x20, .i1⟩
  | .hbm, ⟨68, _⟩ => ⟨S20x20, .f32⟩
  | .hbm, ⟨69, _⟩ => ⟨S_, .i32⟩
  | .hbm, ⟨70, _⟩ => ⟨S_, .i32⟩
  | .hbm, ⟨71, _⟩ => ⟨S20x3584, .f32⟩
  | .hbm, ⟨72, _⟩ => ⟨S_, .f32⟩
  | .hbm, ⟨73, _⟩ => ⟨S20, .f32⟩
  | .hbm, ⟨74, _⟩ => ⟨S20x1, .f32⟩
  | .hbm, ⟨75, _⟩ => ⟨S20x1, .f32⟩
  | .hbm, ⟨76, _⟩ => ⟨S20x3584, .f32⟩
  | .hbm, ⟨77, _⟩ => ⟨S20x3584, .f32⟩
  | .hbm, ⟨78, _⟩ => ⟨S12288x3584, .f32⟩
  | .hbm, ⟨79, _⟩ => ⟨S12288x20, .f32⟩
  | .hbm, ⟨80, _⟩ => ⟨S12288x20, .f32⟩
  | .hbm, ⟨81, _⟩ => ⟨S12288x3584, .f32⟩
  | .hbm, ⟨82, _⟩ => ⟨S12288x3584, .f32⟩
  | .hbm, ⟨83, _⟩ => ⟨S12288x3584, .bf16⟩
  | _, _ => ⟨S20x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_cst : Ref sig .tc := ⟨.hbm, 27, rfl⟩
abbrev main_call0_v5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_c_4 : Ref sig .tc := ⟨.hbm, 45, rfl⟩
abbrev main_c_5 : Ref sig .tc := ⟨.hbm, 46, rfl⟩
abbrev main_v29_0 : Ref sig .tc := ⟨.hbm, 47, rfl⟩
abbrev main_v29_1 : Ref sig .tc := ⟨.hbm, 48, rfl⟩
abbrev main_v29_2 : Ref sig .tc := ⟨.hbm, 49, rfl⟩
abbrev main_v29_3 : Ref sig .tc := ⟨.hbm, 50, rfl⟩
abbrev main_v29_4 : Ref sig .tc := ⟨.hbm, 51, rfl⟩
abbrev main_v29_5 : Ref sig .tc := ⟨.hbm, 52, rfl⟩
abbrev main_v29_6 : Ref sig .tc := ⟨.hbm, 53, rfl⟩
abbrev main_while0c_c_13 : Ref sig .tc := ⟨.hbm, 54, rfl⟩
abbrev main_while0c_v42 : Ref sig .tc := ⟨.hbm, 55, rfl⟩
abbrev main_while0b_c_13 : Ref sig .tc := ⟨.hbm, 56, rfl⟩
abbrev main_while0b_v42 : Ref sig .tc := ⟨.hbm, 57, rfl⟩
abbrev main_while0b_c_14 : Ref sig .tc := ⟨.hbm, 58, rfl⟩
abbrev main_while0b_v43 : Ref sig .tc := ⟨.hbm, 59, rfl⟩
abbrev main_while0b_v44 : Ref sig .tc := ⟨.hbm, 60, rfl⟩
abbrev main_while0b_v45 : Ref sig .tc := ⟨.hbm, 61, rfl⟩
abbrev main_while0b_v46 : Ref sig .tc := ⟨.hbm, 62, rfl⟩
abbrev main_while0b_v47 : Ref sig .tc := ⟨.hbm, 63, rfl⟩
abbrev main_while0b_v48 : Ref sig .tc := ⟨.hbm, 64, rfl⟩
abbrev main_while0b_v49 : Ref sig .tc := ⟨.hbm, 65, rfl⟩
abbrev main_while0b_v50 : Ref sig .tc := ⟨.hbm, 66, rfl⟩
abbrev main_while0b_call1_v0 : Ref sig .tc := ⟨.hbm, 67, rfl⟩
abbrev main_while0b_v51 : Ref sig .tc := ⟨.hbm, 68, rfl⟩
abbrev main_while0b_c_15 : Ref sig .tc := ⟨.hbm, 69, rfl⟩
abbrev main_while0b_v52 : Ref sig .tc := ⟨.hbm, 70, rfl⟩
abbrev main_v30 : Ref sig .tc := ⟨.hbm, 71, rfl⟩
abbrev main_cst_6 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩

abbrev nD : Nat := 1
abbrev τ : Topo := Topo.v7x

variable {F : FTy → Type} [FloatOps F]

abbrev main_while0_count : Scf.Loop 32 := ⟨0#32, 20#32, 1#32⟩
-- ==== Proof.Block.lean ====
/- One weight block of `int4_linear`: what the 112 stores of `_unpack_weights` write.

   `PIECE b codes sc` is the chain of operations that the kernel runs for one 128×128 tile of the weight
   scratch: the packed byte tile `codes`, the offset `b` (0 or 64) of the byte lanes it reads, and the row
   `sc` of scales. `pieces_eq` says that the printed pieces, cut by the printer at irregular places, are this
   one chain at the 28 groups and the 4 lane tiles. `PIECE_apply` says what the chain computes at one index
   over the extended reals: the signed nibble times the scale. -/
module

public import proofs.«01_k».proof.Proof.Gen.LinearIdeal.Value
public import Idealize.ShloMosaic.Lib.ValueIdx
public import Idealize.ShloMosaic.Lib.WholeRead
public import Idealize.ShloMosaic.Lib.BitcastFour

@[expose] public section

set_option maxRecDepth 16384

noncomputable section

namespace Cert.LinearIdeal.Gen

open Idealize.ShloMosaic Idealize.ShloMosaic.TcCoe Idealize.ShloMosaic.Tactic Idealize.ShloMosaic.ValueIdx

variable {F : FTy → Type} [FloatOps F]

/-- The lane number at each element of a 32×128 register tile. -/
def laneW : IVec S32x128 32 := iota .tc S32x128 32 [1] iota_S32x128_d1_w32

/-- The shift of each lane: 4 on the even lanes, 0 on the odd ones. -/
def shiftW : IVec S32x128 32 :=
  muli (broadcast S32x128 4#32) (subi (broadcast S32x128 1#32) (andi laneW (broadcast S32x128 1#32)))

/-- The byte lane that each lane reads, before the wrap of negative indices: half the lane number, plus `b`. -/
def idxW (b : BitVec 32) : IVec S32x128 32 :=
  addi (select
    (andi
      (cmpi .ne
        (subi (extui 32 (cmpi .sgt laneW (broadcast S32x128 0#32)) natLt_1_32)
          (extui 32 (cmpi .slt laneW (broadcast S32x128 0#32)) natLt_1_32))
        (broadcast S32x128 (Scalar.subi (Scalar.extui (Scalar.cmpi .sgt 2#32 0#32))
          (Scalar.extui (Scalar.cmpi .slt 2#32 0#32)))))
      (cmpi .ne (remsi laneW (broadcast S32x128 2#32)) (broadcast S32x128 0#32)))
    (subi (divsi laneW (broadcast S32x128 2#32)) (broadcast S32x128 1#32))
    (divsi laneW (broadcast S32x128 2#32))) (broadcast S32x128 b)

/-- The byte lane that each lane reads. -/
def wrapW (b : BitVec 32) : IVec S32x128 32 :=
  shapeCast S32x128 (shapeCast S32x128x1
    (select (cmpi .slt (idxW b) (broadcast S32x128 0#32)) (addi (idxW b) (broadcast S32x128 128#32)) (idxW b))
    shapeCasts_S32x128_S32x128x1) shapeCasts_S32x128x1_S32x128

/-- The nibbles of one tile, each in the high half of its byte: the packed rows as 32-bit words, the words
    gathered along the lanes, shifted and masked, and read back as bytes. -/
def nibW (b : BitVec 32) (codes : Vec F S128x128 .i8) : IVec S128x128 8 :=
  bitcast S128x128 8
    (andi (shli (dynamicGather 1 (bitcast S32x128 32 codes bitcasts_S128x128_w8_S32x128_w32) (wrapW b)) shiftW)
      (broadcast S32x128 4042322160#32)) bitcasts_S32x128_w32_S128x128_w8

/-- One tile of the weight scratch. -/
def PIECE (b : BitVec 32) (codes : Vec F S128x128 .i8) (sc : Vec F S1x128 .bf16) : FVec F S128x128 .bf16 :=
  shapeCast S128x128
    (mulf (mulf (sitofp .bf16 (nibW b codes)) (broadcast S128x128 (Scalar.ofBits .bf16 0x3D80#16)))
      (broadcastTo S128x128 sc broadcasts_S1x128_S128x128)) shapeCasts_S128x128_S128x128

section Pieces

variable (arg3 : Memref sig .tc .vmem S3584x256 .i8) (harg3 : arg3.IsWhole)
  (arg4 : Memref sig .tc .vmem S28x512 .bf16) (harg4 : arg4.IsWhole)
  (x1 : Vec F S3584x256 .i8) (x2 : Vec F S28x512 .bf16)

theorem inbW (g q : Nat) (hg : g < 28) (hq : q < 4) (a : Fin S3584x512.rank) :
    (![128 * g, 128 * q] : Fin 2 → Nat) a + S128x128.size a ≤ S3584x512.size a := by
  match a with
  | ⟨0, _⟩ => show 128 * g + 128 ≤ 3584; omega
  | ⟨1, _⟩ => show 128 * q + 128 ≤ 512; omega

theorem inbC (g p : Nat) (hg : g < 28) (hp : p < 2) (a : Fin S3584x256.rank) :
    (![128 * g, 128 * p] : Fin 2 → Nat) a + S128x128.size a ≤ S3584x256.size a := by
  match a with
  | ⟨0, _⟩ => show 128 * g + 128 ≤ 3584; omega
  | ⟨1, _⟩ => show 128 * p + 128 ≤ 256; omega

theorem inbS (g q : Nat) (hg : g < 28) (hq : q < 4) (a : Fin S28x512.rank) :
    (![g, 128 * q] : Fin 2 → Nat) a + S1x128.size a ≤ S28x512.size a := by
  match a with
  | ⟨0, _⟩ => show g + 1 ≤ 28; omega
  | ⟨1, _⟩ => show 128 * q + 128 ≤ 512; omega

/-- The store of group `g` and lane tile `q`, which reads the byte tile `p` from its lane `b` on. -/
def tileAt (g : Nat) (hg : g < 28) (q : Nat) (hq : q < 4) (p : Nat) (hp : p < 2) (b : BitVec 32) :
    View.Piece (Elt F) S3584x512 .bf16 :=
  ⟨Rect.unit (s := S3584x512) ![128 * g, 128 * q] S128x128.size (inbW g q hg hq),
    PIECE b
      (View.readAt (Elt F) arg3.view (Rect.unit (s := S3584x256) ![128 * g, 128 * p] S128x128.size (inbC g p hg hp)).toLoadRect (harg3.unread x1))
      (View.readAt (Elt F) arg4.view (Rect.unit (s := S28x512) ![g, 128 * q] S1x128.size (inbS g q hg hq)).toLoadRect (harg4.unread x2))⟩

/-- The stores of the first `n` groups, the last one first. -/
def tiles : (n : Nat) → n ≤ 28 → List (View.Piece (Elt F) S3584x512 .bf16)
  | 0, _ => []
  | n + 1, h =>
    tileAt arg3 harg3 arg4 harg4 x1 x2 n h 3 (by decide) 1 (by decide) 64#32 ::
    tileAt arg3 harg3 arg4 harg4 x1 x2 n h 2 (by decide) 1 (by decide) 0#32 ::
    tileAt arg3 harg3 arg4 harg4 x1 x2 n h 1 (by decide) 0 (by decide) 64#32 ::
    tileAt arg3 harg3 arg4 harg4 x1 x2 n h 0 (by decide) 0 (by decide) 0#32 :: tiles n (Nat.le_of_succ_le h)

set_option maxRecDepth 65536 in
/-- The pieces that the run of the filling case found are the 28 × 4 tiles. -/
theorem pieces_eq (c : Dev nD) (i : grid0.Coords) (arg2 : Memref sig .tc .vmem S1024x3584 .bf16) (harg2 : arg2.IsWhole)
    (arg5 : Memref sig .tc .vmem S1024x512 .bf16) (harg5 : arg5.IsWhole) (arg6 : Memref sig .tc .vmem S3584x512 .bf16)
    (harg6 : arg6.IsWhole) (hc0 : cond0_0 i) (x0 : Vec F S1024x3584 .bf16) :
    (kernelRun0_A c i arg2 harg2 arg3 harg3 arg4 harg4 arg5 harg5 arg6 harg6 hc0 x0 x1 x2).2.1
      = tiles arg3 harg3 arg4 harg4 x1 x2 28 (Nat.le_refl 28) := by
  unfold kernelRun0_A
  dsimp only
  sl_unfold_words
  rfl

end Pieces

end Cert.LinearIdeal.Gen

end
-- ==== Proof.BlockValue.lean ====
/- What one tile of the weight scratch holds at an index, over the extended reals: the signed nibble that the
   packed byte holds for that column, times the scale of the column. -/
module

public import proofs.«01_k».proof.Proof.Block

@[expose] public section

set_option maxRecDepth 16384

noncomputable section

namespace Cert.LinearIdeal.Gen

open Idealize.ShloMosaic Idealize.ShloMosaic.TcCoe Idealize.ShloMosaic.Tactic Idealize.ShloMosaic.ValueIdx

/-- Four bits as a signed number. -/
def sgn4 (n : Nat) : ℤ := if 8 ≤ n then (n : ℤ) - 16 else n

/-- The weight that the packed byte `x` holds for column `l`: the low nibble for an even column, the high nibble for
    an odd one, signed. -/
def nib (x : BitVec 8) (l : Nat) : ℤ := sgn4 (if l % 2 = 0 then x.toNat % 16 else x.toNat / 16)

theorem lo_toInt : ∀ x : BitVec 8, (x <<< 4).toInt = 16 * nib x 0 := by decide +kernel
theorem hi_toInt : ∀ x : BitVec 8, (x &&& 240#8).toInt = 16 * nib x 1 := by decide +kernel

theorem nib_even (x : BitVec 8) (l : Nat) (h : l % 2 = 0) : nib x l = nib x 0 := by unfold nib; rw [if_pos h]; rfl
theorem nib_odd (x : BitVec 8) (l : Nat) (h : ¬ l % 2 = 0) : nib x l = nib x 1 := by unfold nib; rw [if_neg h]; rfl

/-- The shift at a lane, as a word. -/
def shiftS (l : BitVec 32) : BitVec 32 := IntOp.muli 4#32 (IntOp.subi 1#32 (IntOp.andi l 1#32))

theorem shiftS_even : ∀ l : Fin 128, l.val % 2 = 0 → shiftS (BitVec.ofNat 32 l.val) = 4#32 := by decide +kernel
theorem shiftS_odd : ∀ l : Fin 128, ¬ l.val % 2 = 0 → shiftS (BitVec.ofNat 32 l.val) = 0#32 := by decide +kernel

/-- The offset index at a lane, as a word. -/
def idxS (b l : BitVec 32) : BitVec 32 :=
  IntOp.addi (Scalar.select
    (IntOp.andi
      (IntOp.cmpi .ne
        (IntOp.subi ((IntOp.cmpi .sgt l 0#32).setWidth 32) ((IntOp.cmpi .slt l 0#32).setWidth 32))
        (Scalar.subi (Scalar.extui (Scalar.cmpi .sgt 2#32 0#32)) (Scalar.extui (Scalar.cmpi .slt 2#32 0#32))))
      (IntOp.cmpi .ne (IntOp.remsi .vector l 2#32) 0#32))
    (IntOp.subi (IntOp.divsi .vector l 2#32) 1#32)
    (IntOp.divsi .vector l 2#32)) b

/-- The same after the wrap of negative indices. -/
def wrapS (b l : BitVec 32) : BitVec 32 :=
  Scalar.select (IntOp.cmpi .slt (idxS b l) 0#32) (IntOp.addi (idxS b l) 128#32) (idxS b l)

theorem wrapS_0 : ∀ l : Fin 128, (wrapS 0#32 (BitVec.ofNat 32 l.val)).toNat = l.val / 2 := by decide +kernel
theorem wrapS_64 : ∀ l : Fin 128, (wrapS 64#32 (BitVec.ofNat 32 l.val)).toNat = l.val / 2 + 64 := by decide +kernel

theorem laneW_apply (a : Fin 32) (l : Fin 128) : laneW (ix2 a l) = BitVec.ofNat 32 l.val :=
  iota_single_apply _ _ _ _ _ _

theorem shiftW_apply (a : Fin 32) (l : Fin 128) : shiftW (ix2 a l) = shiftS (BitVec.ofNat 32 l.val) := by
  rw [← laneW_apply a l]; rfl

theorem wrapW_apply (b : BitVec 32) (a : Fin 32) (l : Fin 128) : wrapW b (ix2 a l) = wrapS b (BitVec.ofNat 32 l.val) := by
  unfold wrapW
  rw [shapeCast_shapeCast, ← laneW_apply a l]; rfl

variable {F : FTy → Type} [FloatOps F]

/-- The words gathered along the lanes: lane `l` of a row is lane `l / 2`, or `l / 2 + 64`, of that row. -/
theorem gather_apply (b : BitVec 32) (x : IVec S32x128 32) (a : Fin 32) (l p : Fin 128)
    (hp : (wrapS b (BitVec.ofNat 32 l.val)).toNat = p.val) :
    dynamicGather 1 x (wrapW b) (ix2 a l) = x (ix2 a p) := by
  unfold dynamicGather
  refine congrArg x (funext fun d => ?_)
  match d with
  | ⟨0, _⟩ => rfl
  | ⟨1, _⟩ =>
    refine Fin.ext ?_
    show (wrapW b (ix2 a l)).toNat % 128 = p.val
    rw [wrapW_apply, hp]
    exact Nat.mod_eq_of_lt p.isLt

theorem shl4_bits (w : BitVec 32) (q k : Nat) (hq : q < 8) (hk : k < 4) :
    (IntOp.andi (IntOp.shli .vector w 4#32) 4042322160#32).getLsbD (8 * k + q) = (decide (4 ≤ q) && w.getLsbD (8 * k + (q - 4))) := by
  have : IntOp.shli .vector w 4#32 = w <<< 4 := by simp [IntOp.shli]
  rw [this]
  simp only [IntOp.andi, BitVec.getLsbD_and, BitVec.getLsbD_shiftLeft]
  interval_cases k <;> interval_cases q <;> simp

theorem shl0_bits (w : BitVec 32) (q k : Nat) (hq : q < 8) (hk : k < 4) :
    (IntOp.andi (IntOp.shli .vector w 0#32) 4042322160#32).getLsbD (8 * k + q) = (decide (4 ≤ q) && w.getLsbD (8 * k + q)) := by
  have : IntOp.shli .vector w 0#32 = w := by simp [IntOp.shli]
  rw [this]
  simp only [IntOp.andi, BitVec.getLsbD_and]
  interval_cases k <;> interval_cases q <;> simp

/-- A word tile read as bytes: bit `q` of byte row `r` is bit `8 (r % 4) + q` of word row `r / 4`. -/
theorem bytes_getLsbD (x : IVec S32x128 32) (r l : Fin 128) (q : Nat) (hq : q < 8) :
    (bitcast S128x128 8 x bitcasts_S32x128_w32_S128x128_w8 (ix2 r l)).getLsbD q
      = (x (ix2 ⟨r.val / 4, by omega⟩ l)).getLsbD (8 * (r.val % 4) + q) := by
  have hrow : S128x128.row (ix2 r l) = r.val := rfl
  rw [bitcast_getLsbD x bitcasts_S32x128_w32_S128x128_w8 (ix2 r l) q hq (by decide)]
  have e1 : (S128x128.row (ix2 r l) * 8 + q) / 32 = r.val / 4 := by rw [hrow]; omega
  have e2 : (S128x128.row (ix2 r l) * 8 + q) % 32 = 8 * (r.val % 4) + q := by rw [hrow]; omega
  rw [e2]
  congr 2
  funext d
  match d with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- The byte tile at an index: the byte's nibble for that column, in the high half of a byte. -/
theorem nibW_toInt (b : BitVec 32) (codes : Vec F S128x128 .i8) (r l p : Fin 128)
    (hp : (wrapS b (BitVec.ofNat 32 l.val)).toNat = p.val) :
    (nibW b codes (ix2 r l)).toInt = 16 * nib (codes (ix2 r p)) l.val := by
  have word : ∀ q, q < 8 → (bitcast S32x128 32 codes bitcasts_S128x128_w8_S32x128_w32 (ix2 ⟨r.val / 4, by omega⟩ p)).getLsbD
      (8 * (r.val % 4) + q) = (codes (ix2 r p)).getLsbD q := fun q hq => by
    refine (bitcast_8_32_getLsbD_ix2 codes _ ⟨r.val / 4, by omega⟩ p (8 * (r.val % 4) + q) (by omega) r
      (by show r.val = 4 * (r.val / 4) + (8 * (r.val % 4) + q) / 8; omega)).trans ?_
    congr 1; omega
  have elem : ∀ q, q < 8 → (nibW b codes (ix2 r l)).getLsbD q
      = (IntOp.andi (IntOp.shli .vector (bitcast S32x128 32 codes bitcasts_S128x128_w8_S32x128_w32 (ix2 ⟨r.val / 4, by omega⟩ p))
          (shiftS (BitVec.ofNat 32 l.val))) 4042322160#32).getLsbD (8 * (r.val % 4) + q) := fun q hq => by
    unfold nibW
    rw [bytes_getLsbD _ r l q hq, ← shiftW_apply ⟨r.val / 4, by omega⟩ l,
      ← gather_apply b (bitcast S32x128 32 codes bitcasts_S128x128_w8_S32x128_w32) ⟨r.val / 4, by omega⟩ l p hp]
    rfl
  by_cases h : l.val % 2 = 0
  · rw [nib_even _ _ h, ← lo_toInt]
    congr 1
    apply BitVec.eq_of_getLsbD_eq
    intro q hq
    rw [elem q hq, shiftS_even l h, shl4_bits _ q _ hq (by omega), BitVec.getLsbD_shiftLeft]
    by_cases h4 : 4 ≤ q
    · rw [word (q - 4) (by omega)]; simp [hq, h4, Nat.not_lt.mpr h4]
    · simp [h4, Nat.lt_of_not_le h4]
  · rw [nib_odd _ _ h, ← hi_toInt]
    congr 1
    apply BitVec.eq_of_getLsbD_eq
    intro q hq
    rw [elem q hq, shiftS_odd l h, shl0_bits _ q _ hq (by omega), word q hq, BitVec.getLsbD_and, Bool.and_comm]
    congr 1
    interval_cases q <;> rfl

/-- The pattern `0x3D80` at bf16 is one sixteenth. -/
theorem sixteenth : Ideal.ofBits .bf16 0x3D80#16 = (((1 : ℝ) / 16 : ℝ) : EReal) := by
  simp [Ideal.ofBits, Ideal.ieee]
  rw [← EReal.coe_mul]
  congr 1
  norm_num

/-- One tile at an index, over the extended reals. -/
theorem PIECE_apply (b : BitVec 32) (codes : Vec Ideal S128x128 .i8) (sc : Vec Ideal S1x128 .bf16) (r l p : Fin 128)
    (hp : (wrapS b (BitVec.ofNat 32 l.val)).toNat = p.val) :
    PIECE (F := Ideal) b codes sc (ix2 r l) = (((nib (codes (ix2 r p)) l.val : ℤ) : ℝ) : EReal) * sc (ix2 0 l) := by
  unfold PIECE
  rw [shapeCast_self, mulf_apply, mulf_apply, sitofp_apply, broadcast_apply]
  have hb : broadcastTo S128x128 sc broadcasts_S1x128_S128x128 (ix2 r l) = sc (ix2 0 l) := by
    refine broadcastTo_apply _ _ _ _ ?_
    intro a
    match a with
    | ⟨0, _⟩ => rfl
    | ⟨1, _⟩ => rfl
  rw [hb]
  congr 1
  show ((((nibW b codes (ix2 r l)).toInt : ℤ) : ℝ) : EReal) * Ideal.ofBits .bf16 0x3D80#16 = _
  rw [nibW_toInt b codes r l p hp, sixteenth, ← EReal.coe_mul]
  congr 1
  push_cast
  ring

end Cert.LinearIdeal.Gen

end
-- ==== Proof.Tile.lean ====
/- One grid point of `int4_linear`: what the weight scratch and the output block hold after it.

   `weights` is the 3584×512 tile of weights that the packed codes and the scales of a column block stand for.
   The filling case leaves it in the scratch, and either case leaves the product of the row block with the
   scratch in the output block. -/
module

public import proofs.«01_k».proof.Proof.BlockValue

@[expose] public section

set_option maxRecDepth 16384

noncomputable section

namespace Cert.LinearIdeal.Gen

open Idealize.ShloMosaic Idealize.ShloMosaic.TcCoe Idealize.ShloMosaic.Tactic Idealize.ShloMosaic.ValueIdx
open scoped BigOperators

/-- The weight at row `k` and column `j` of a column block: the signed nibble of its packed byte times its scale. -/
def weightAt (x1 : Vec Ideal S3584x256 .i8) (x2 : Vec Ideal S28x512 .bf16) (k : Fin 3584) (j : Fin 512) : EReal :=
  (((nib (x1 (ix2 k ⟨j.val / 2, by omega⟩)) j.val : ℤ) : ℝ) : EReal) * x2 (ix2 ⟨k.val / 128, by omega⟩ j)

/-- The weights of a column block. -/
def weights (x1 : Vec Ideal S3584x256 .i8) (x2 : Vec Ideal S28x512 .bf16) : Vec Ideal S3584x512 .bf16 :=
  fun y => weightAt x1 x2 (y 0) (y 1)

theorem nib_congr (x : BitVec 8) (l l' : Nat) (h : l % 2 = l' % 2) : nib x l = nib x l' := by unfold nib; rw [h]

section Pieces

variable (arg3 : Memref sig .tc .vmem S3584x256 .i8) (harg3 : arg3.IsWhole)
  (arg4 : Memref sig .tc .vmem S28x512 .bf16) (harg4 : arg4.IsWhole)
  (x1 : Vec Ideal S3584x256 .i8) (x2 : Vec Ideal S28x512 .bf16)

/-- One store writes the weights at its place. -/
theorem tileAt_apply (g : Nat) (hg : g < 28) (q : Nat) (hq : q < 4) (p : Nat) (hp : p < 2) (b : BitVec 32) (o : Nat)
    (ho : 64 * q = 128 * p + o) (ho' : o ≤ 64) (hl : ∀ l : Fin 128, (wrapS b (BitVec.ofNat 32 l.val)).toNat = l.val / 2 + o)
    (x : (tileAt arg3 harg3 arg4 harg4 x1 x2 g hg q hq p hp b).1.shape.Idx) :
    (tileAt arg3 harg3 arg4 harg4 x1 x2 g hg q hq p hp b).2 x
      = weights x1 x2 ((tileAt arg3 harg3 arg4 harg4 x1 x2 g hg q hq p hp b).1.emb x) := by
  obtain ⟨r, l, rfl⟩ : ∃ (r l : Fin 128), x = ix2 r l := ⟨x 0, x 1, eq_ix2 (n0 := 128) (n1 := 128) x⟩
  refine (PIECE_apply b _ _ r l ⟨l.val / 2 + o, by omega⟩ (hl l)).trans ?_
  rw [harg3.readAt_unread, harg4.readAt_unread]
  unfold weights weightAt
  have e1 : (Rect.unit (s := S3584x256) ![128 * g, 128 * p] S128x128.size (inbC g p hg hp)).toLoadRect.idx
      (ix2 r ⟨l.val / 2 + o, by omega⟩) = ix2 ⟨128 * g + r.val, by omega⟩ ⟨(128 * q + l.val) / 2, by omega⟩ := by
    funext d
    match d with
    | ⟨0, _⟩ => exact Fin.ext (by show 128 * g + 1 * r.val = 128 * g + r.val; omega)
    | ⟨1, _⟩ => exact Fin.ext (by show 128 * p + 1 * (l.val / 2 + o) = (128 * q + l.val) / 2; omega)
  have e2 : (Rect.unit (s := S28x512) ![g, 128 * q] S1x128.size (inbS g q hg hq)).toLoadRect.idx
      (ix2 0 l) = ix2 ⟨g, by omega⟩ ⟨128 * q + l.val, by omega⟩ := by
    funext d
    match d with
    | ⟨0, _⟩ => exact Fin.ext (by show g + 1 * 0 = g; omega)
    | ⟨1, _⟩ => exact Fin.ext (by show 128 * q + 1 * l.val = 128 * q + l.val; omega)
  have f0 : (tileAt arg3 harg3 arg4 harg4 x1 x2 g hg q hq p hp b).1.emb (ix2 r l) 0 = (⟨128 * g + r.val, by omega⟩ : Fin 3584) :=
    Fin.ext (by show 128 * g + 1 * r.val = 128 * g + r.val; omega)
  have f1 : (tileAt arg3 harg3 arg4 harg4 x1 x2 g hg q hq p hp b).1.emb (ix2 r l) 1 = (⟨128 * q + l.val, by omega⟩ : Fin 512) :=
    Fin.ext (by show 128 * q + 1 * l.val = 128 * q + l.val; omega)
  rw [e1, e2, f0, f1]
  have h0 : (⟨(128 * g + r.val) / 128, by omega⟩ : Fin 28) = ⟨g, hg⟩ := Fin.ext (by show (128 * g + r.val) / 128 = g; omega)
  dsimp only
  rw [h0, nib_congr _ l.val (128 * q + l.val) (by omega)]

/-- So do all of them. -/
theorem tiles_apply : ∀ (n : Nat) (h : n ≤ 28), ∀ pc ∈ tiles arg3 harg3 arg4 harg4 x1 x2 n h, ∀ x : pc.1.shape.Idx,
    pc.2 x = weights x1 x2 (pc.1.emb x)
  | 0, _, pc, hpc, x => by simp [tiles] at hpc
  | n + 1, h, pc, hpc, x => by
    unfold tiles at hpc
    rcases List.mem_cons.mp hpc with rfl | hpc
    · exact tileAt_apply arg3 harg3 arg4 harg4 x1 x2 n h 3 _ 1 _ 64#32 64 (by decide) (by decide) wrapS_64 x
    rcases List.mem_cons.mp hpc with rfl | hpc
    · exact tileAt_apply arg3 harg3 arg4 harg4 x1 x2 n h 2 _ 1 _ 0#32 0 (by decide) (by decide) wrapS_0 x
    rcases List.mem_cons.mp hpc with rfl | hpc
    · exact tileAt_apply arg3 harg3 arg4 harg4 x1 x2 n h 1 _ 0 _ 64#32 64 (by decide) (by decide) wrapS_64 x
    rcases List.mem_cons.mp hpc with rfl | hpc
    · exact tileAt_apply arg3 harg3 arg4 harg4 x1 x2 n h 0 _ 0 _ 0#32 0 (by decide) (by decide) wrapS_0 x
    · exact tiles_apply n _ pc hpc x

end Pieces

/-- The product of a row block with the weight scratch. -/
def prodAt (x0 : Vec Ideal S1024x3584 .bf16) (w : Vec Ideal S3584x512 .bf16) (r : Fin 1024) (j : Fin 512) : EReal :=
  ∑ k : Fin 3584, x0 (ix2 r k) * w (ix2 k j)

/-- The stored product at an index. -/
theorem pay2_apply (x0 : Vec Ideal S1024x3584 .bf16) (w : Vec Ideal S3584x512 .bf16) (y : S1024x512.Idx) :
    k0_pay2 (F := Ideal) x0 w y = prodAt x0 w (y 0) (y 1) := by
  unfold k0_pay2
  show Ideal.matmul dot_S1024x3584_S3584x512_S1024x512_1_0_0_1_n_n x0 w (constant (F := Ideal) S1024x512 .f32 0x00000000#32) y = _
  unfold Ideal.matmul prodAt
  rw [show (constant (F := Ideal) S1024x512 .f32 0x00000000#32 : FVec Ideal S1024x512 .f32) y = 0 from by
    simp [constant_apply, Ideal.ofBits, Ideal.ieee], zero_add]
  rw [← Equiv.sum_comp (contrEquiv1 dot_S1024x3584_S3584x512_S1024x512_1_0_0_1_n_n 3584 rfl rfl).symm]
  refine Finset.sum_congr rfl fun k _ => ?_
  congr 2
  · funext d
    match d with
    | ⟨0, _⟩ => rfl
    | ⟨1, _⟩ => rfl
  · funext d
    match d with
    | ⟨0, _⟩ => rfl
    | ⟨1, _⟩ => rfl

/-- The load rectangle of a whole rank-2 array reads each index at itself. -/
theorem whole_idx {n0 n1 : Nat} (inb : ∀ a : Fin 2, (![0, 0] : Fin 2 → Nat) a + (⟨2, ![n0, n1]⟩ : Shape).size a ≤ (⟨2, ![n0, n1]⟩ : Shape).size a)
    (x : (⟨2, ![n0, n1]⟩ : Shape).Idx) :
    (Rect.unit (s := ⟨2, ![n0, n1]⟩) ![0, 0] (⟨2, ![n0, n1]⟩ : Shape).size inb).toLoadRect.idx x = x := by
  funext d
  match d with
  | ⟨0, _⟩ => exact Fin.ext (by show 0 + 1 * (x 0).val = (x 0).val; omega)
  | ⟨1, _⟩ => exact Fin.ext (by show 0 + 1 * (x 1).val = (x 1).val; omega)

/-- One store of a whole rank-2 array leaves its payload. -/
theorem whole_canon {n0 n1 : Nat} (inb : ∀ a : Fin 2, (![0, 0] : Fin 2 → Nat) a + (⟨2, ![n0, n1]⟩ : Shape).size a ≤ (⟨2, ![n0, n1]⟩ : Shape).size a)
    (w : FVec Ideal ⟨2, ![n0, n1]⟩ .bf16) (y : (⟨2, ![n0, n1]⟩ : Shape).Idx) :
    View.canon (Val := Elt Ideal) (s := ⟨2, ![n0, n1]⟩) (e := .bf16)
      [⟨Rect.unit (s := ⟨2, ![n0, n1]⟩) ![0, 0] (⟨2, ![n0, n1]⟩ : Shape).size inb, w⟩] y = w y := by
  have h := View.canon_cons_emb (Val := Elt Ideal) (e := .bf16)
    (Rect.unit (s := ⟨2, ![n0, n1]⟩) ![0, 0] (⟨2, ![n0, n1]⟩ : Shape).size inb) w [] y
  rwa [show (Rect.unit (s := ⟨2, ![n0, n1]⟩) ![0, 0] (⟨2, ![n0, n1]⟩ : Shape).size inb).emb y = y from whole_idx inb y] at h

section Cases

variable (c : Dev nD) (i : grid0.Coords) (arg2 : Memref sig .tc .vmem S1024x3584 .bf16) (harg2 : arg2.IsWhole)
  (arg3 : Memref sig .tc .vmem S3584x256 .i8) (harg3 : arg3.IsWhole) (arg4 : Memref sig .tc .vmem S28x512 .bf16) (harg4 : arg4.IsWhole)
  (arg5 : Memref sig .tc .vmem S1024x512 .bf16) (harg5 : arg5.IsWhole) (arg6 : Memref sig .tc .vmem S3584x512 .bf16) (harg6 : arg6.IsWhole)
  (x0 : Vec Ideal S1024x3584 .bf16) (x1 : Vec Ideal S3584x256 .i8) (x2 : Vec Ideal S28x512 .bf16)

/-- The pieces of the filling case, read over anything, are the weights. -/
theorem canon_A (hc0 : cond0_0 i) :
    View.canon (kernelRun0_A (F := Ideal) c i arg2 harg2 arg3 harg3 arg4 harg4 arg5 harg5 arg6 harg6 hc0 x0 x1 x2).2.1 = weights x1 x2 := by
  funext y
  refine View.canon_apply_of_pieces (weights x1 x2) _ ?_ y (scover0_A_0 c i arg2 harg2 arg3 harg3 arg4 harg4 arg5 harg5 arg6 harg6 hc0 x0 x1 x2 y)
  rw [pieces_eq]
  exact tiles_apply arg3 harg3 arg4 harg4 x1 x2 28 _

/-- The filling case leaves the weights in the scratch. -/
theorem sout_A (hc0 : cond0_0 i) :
    sout0_A_0 (F := Ideal) c i arg2 harg2 arg3 harg3 arg4 harg4 arg5 harg5 arg6 harg6 hc0 x0 x1 x2 = weights x1 x2 := by
  unfold sout0_A_0
  rw [View.read_writes_eq_canon _ _ _ (scover0_A_0 c i arg2 harg2 arg3 harg3 arg4 harg4 arg5 harg5 arg6 harg6 hc0 x0 x1 x2), canon_A]

/-- The other case stores the product of the row block with the scratch as it found it. -/
theorem out_B (hc0 : ¬cond0_0 i) (xs : Vec Ideal S3584x512 .bf16) (y : S1024x512.Idx) :
    out0_B_3 (F := Ideal) c i arg2 harg2 arg3 harg3 arg4 harg4 arg5 harg5 arg6 harg6 hc0 x0 x1 x2 xs y = prodAt x0 xs (y 0) (y 1) := by
  unfold out0_B_3
  rw [View.read_writes_eq_canon _ _ _ (cover0_B_3 c i arg2 harg2 arg3 harg3 arg4 harg4 arg5 harg5 arg6 harg6 hc0 x0 x1 x2 xs)]
  unfold kernelRun0_B
  dsimp only
  sl_unfold_words
  refine (whole_canon _ _ y).trans ((pay2_apply _ _ y).trans ?_)
  congr 1
  · funext z; rw [harg2.readAt_unread]; exact congrArg x0 (whole_idx _ z)
  · funext z; rw [harg6.readAt_unread]; exact congrArg xs (whole_idx _ z)

/-- The filling case stores the product of the row block with the weights. -/
theorem out_A (hc0 : cond0_0 i) (y : S1024x512.Idx) :
    out0_A_3 (F := Ideal) c i arg2 harg2 arg3 harg3 arg4 harg4 arg5 harg5 arg6 harg6 hc0 x0 x1 x2 y = prodAt x0 (weights x1 x2) (y 0) (y 1) := by
  unfold out0_A_3
  rw [View.read_writes_eq_canon _ _ _ (cover0_A_3 c i arg2 harg2 arg3 harg3 arg4 harg4 arg5 harg5 arg6 harg6 hc0 x0 x1 x2)]
  have pieces : (kernelRun0_A (F := Ideal) c i arg2 harg2 arg3 harg3 arg4 harg4 arg5 harg5 arg6 harg6 hc0 x0 x1 x2).1
      = [⟨Rect.unit (s := S1024x512) ![0, 0] S1024x512.size inb_S1024x512_S1024x512_0_0,
          k0_pay2 (View.readAt (Elt Ideal) arg2.view
              (Rect.unit (s := S1024x3584) ![0, 0] S1024x3584.size inb_S1024x3584_S1024x3584_0_0).toLoadRect (harg2.unread x0))
            (arg6.view.readCov (kernelRun0_A (F := Ideal) c i arg2 harg2 arg3 harg3 arg4 harg4 arg5 harg5 arg6 harg6 hc0 x0 x1 x2).2.1
              (Rect.unit (s := S3584x512) ![0, 0] S3584x512.size inb_S3584x512_S3584x512_0_0).toLoadRect)⟩] := by
    unfold kernelRun0_A
    dsimp only
    sl_unfold_words
    rfl
  rw [pieces]
  refine (whole_canon _ _ y).trans ((pay2_apply _ _ y).trans ?_)
  congr 1
  · funext z; rw [harg2.readAt_unread]; exact congrArg x0 (whole_idx _ z)
  · rw [View.readCov_eq_canon', canon_A]
    funext z; exact congrArg (weights x1 x2) (whole_idx _ z)

end Cases

end Cert.LinearIdeal.Gen

end
-- ==== Proof.Array.lean ====
/- What the result array of `int4_linear` holds after the run: at row `a` and column `b` the sum over `k` of
   `zb[a, k]` times the weight of row `k` and column `b`.

   The scratch after a point holds the weights of the point's column block (`scratch_eq`, by induction over the
   points: the first point of a column block fills it, the others leave it). So the block that a point writes back
   is the product of its row block with those weights (`block_eq`), and `G3_apply` reads the array at an index. -/
module

public import proofs.«01_k».proof.Proof.Tile

@[expose] public section

set_option maxRecDepth 16384

noncomputable section

namespace Cert.LinearIdeal.Gen

open Idealize.ShloMosaic Idealize.ShloMosaic.TcCoe Idealize.ShloMosaic.Tactic Idealize.ShloMosaic.ValueIdx
open scoped BigOperators

/-- The weight at row `k` and column `b` of the whole matrix: the signed nibble of its packed byte times its scale. -/
def weightOf (codes : Vec Ideal S3584x9472 .i8) (scales : Vec Ideal S28x18944 .bf16) (k : Fin 3584) (b : Fin 18944) : EReal :=
  (((nib (codes (ix2 k ⟨b.val / 2, by omega⟩)) b.val : ℤ) : ℝ) : EReal) * scales (ix2 ⟨k.val / 128, by omega⟩ b)

/-- One element of the linear layer. -/
def linearAt (zb : Vec Ideal S12288x3584 .bf16) (codes : Vec Ideal S3584x9472 .i8) (scales : Vec Ideal S28x18944 .bf16)
    (a : Fin 12288) (b : Fin 18944) : EReal :=
  ∑ k : Fin 3584, zb (ix2 a k) * weightOf codes scales k b

variable (m : (ℓ : Loc nD τ sig) → Buf (Elt Ideal) ℓ) (c : Dev nD)

abbrev zbIn : Vec Ideal S12288x3584 .bf16 := m ((c : Thread nD τ).loc main_arg0)
abbrev codesIn : Vec Ideal S3584x9472 .i8 := m ((c : Thread nD τ).loc main_arg1)
abbrev scalesIn : Vec Ideal S28x18944 .bf16 := m ((c : Thread nD τ).loc main_arg2)

theorem lt_N (t : Fin cfg0.N) : t.val < 444 := lt_of_lt_of_eq t.isLt N_0

/-- The printed index maps of the inputs, decided over the grid. -/
theorem idx_in : ∀ t : Fin cfg0.N,
    win0_0.index t (0 : Fin 2) = t.val % 12 ∧ win0_0.index t (1 : Fin 2) = 0
    ∧ win0_1.index t (0 : Fin 2) = 0 ∧ win0_1.index t (1 : Fin 2) = t.val / 12
    ∧ win0_2.index t (0 : Fin 2) = 0 ∧ win0_2.index t (1 : Fin 2) = t.val / 12 :=
  (by decide +kernel : ∀ t : Fin grid0.N, _)

theorem blk_lt (t : Fin cfg0.N) : t.val / 12 < 37 := by have := lt_N t; omega

/-- The row block of a point. -/
theorem iblk0_apply (t : Fin cfg0.N) (r : Fin 1024) (k : Fin 3584) :
    iblk m c 0 t (ix2 r k) = zbIn m c (ix2 ⟨1024 * (t.val % 12) + r.val, by omega⟩ k) := by
  obtain ⟨e0, e1, -⟩ := idx_in t
  unfold iblk
  rw [View.read_apply, cast_eq]
  refine congrArg (zbIn m c) (funext fun d => ?_)
  match d with
  | ⟨0, _⟩ => exact Fin.ext (by show win0_0.index t (0 : Fin 2) * 1024 + 1 * r.val = 1024 * (t.val % 12) + r.val; rw [e0]; omega)
  | ⟨1, _⟩ => exact Fin.ext (by show win0_0.index t (1 : Fin 2) * 3584 + 1 * k.val = k.val; rw [e1]; omega)

/-- The packed codes of a point's column block. -/
theorem iblk1_apply (t : Fin cfg0.N) (k : Fin 3584) (l : Fin 256) :
    iblk m c 1 t (ix2 k l) = codesIn m c (ix2 k ⟨256 * (t.val / 12) + l.val, by have := blk_lt t; omega⟩) := by
  obtain ⟨-, -, e0, e1, -⟩ := idx_in t
  unfold iblk
  rw [View.read_apply, cast_eq]
  refine congrArg (codesIn m c) (funext fun d => ?_)
  match d with
  | ⟨0, _⟩ => exact Fin.ext (by show win0_1.index t (0 : Fin 2) * 3584 + 1 * k.val = k.val; rw [e0]; omega)
  | ⟨1, _⟩ => exact Fin.ext (by show win0_1.index t (1 : Fin 2) * 256 + 1 * l.val = 256 * (t.val / 12) + l.val; rw [e1]; omega)

/-- The scales of a point's column block. -/
theorem iblk2_apply (t : Fin cfg0.N) (g : Fin 28) (j : Fin 512) :
    iblk m c 2 t (ix2 g j) = scalesIn m c (ix2 g ⟨512 * (t.val / 12) + j.val, by have := blk_lt t; omega⟩) := by
  obtain ⟨-, -, -, -, e0, e1⟩ := idx_in t
  unfold iblk
  rw [View.read_apply, cast_eq]
  refine congrArg (scalesIn m c) (funext fun d => ?_)
  match d with
  | ⟨0, _⟩ => exact Fin.ext (by show win0_2.index t (0 : Fin 2) * 28 + 1 * g.val = g.val; rw [e0]; omega)
  | ⟨1, _⟩ => exact Fin.ext (by show win0_2.index t (1 : Fin 2) * 512 + 1 * j.val = 512 * (t.val / 12) + j.val; rw [e1]; omega)

/-- The weights of column block `n`. -/
def blockWeights (n : Nat) (hn : n < 37) : Vec Ideal S3584x512 .bf16 := fun y =>
  weightOf (codesIn m c) (scalesIn m c) (y 0) ⟨512 * n + (y 1).val, by have := idx2_lt1 (n0 := 3584) (n1 := 512) y; omega⟩

/-- What the filling case leaves in the scratch at a point is the weights of its column block. -/
theorem weights_iblk (t : Fin cfg0.N) :
    weights (iblk m c 1 t) (iblk m c 2 t) = blockWeights m c (t.val / 12) (blk_lt t) := by
  funext y
  obtain ⟨k, j, rfl⟩ : ∃ (k : Fin 3584) (j : Fin 512), y = ix2 k j := ⟨y 0, y 1, eq_ix2 (n0 := 3584) (n1 := 512) y⟩
  show weightAt (iblk m c 1 t) (iblk m c 2 t) k j
    = weightOf (codesIn m c) (scalesIn m c) k ⟨512 * (t.val / 12) + j.val, by have := blk_lt t; omega⟩
  unfold weightAt weightOf
  rw [iblk1_apply, iblk2_apply, nib_congr _ j.val (512 * (t.val / 12) + j.val) (by omega)]
  have e : (⟨256 * (t.val / 12) + j.val / 2, by have := blk_lt t; omega⟩ : Fin 9472)
      = ⟨(512 * (t.val / 12) + j.val) / 2, by have := blk_lt t; omega⟩ := Fin.ext (by dsimp only; omega)
  rw [e]

theorem blockWeights_congr (n n' : Nat) (hn : n < 37) (hn' : n' < 37) (h : n = n') :
    blockWeights m c n hn = blockWeights m c n' hn' := by subst h; rfl

/-- The scratch after a point holds the weights of the point's column block. -/
theorem scratch_eq : ∀ (n : Nat) (hn : n < cfg0.N),
    (outsAt0 m c n hn).2 = blockWeights m c (n / 12) (blk_lt ⟨n, hn⟩)
  | 0, hn => by
    rw [outsAt0_A m c ⟨0, hn⟩ (Nat.zero_mod _)]
    dsimp only
    rw [sout_A, weights_iblk]
  | n + 1, hn => by
    by_cases h0 : (n + 1) % 12 = 0
    · rw [outsAt0_A m c ⟨n + 1, hn⟩ h0]
      dsimp only
      rw [sout_A, weights_iblk]
    · rw [outsAt0_B m c ⟨n + 1, hn⟩ h0]
      refine (scratch_eq n (Nat.lt_of_succ_lt hn)).trans (blockWeights_congr m c _ _ _ _ ?_)
      omega

/-- The block that a point leaves in the output's buffer, at an index. -/
theorem block_eq (t : Fin cfg0.N) (y : S1024x512.Idx) :
    (outsAt0 m c t.val t.isLt).1 y
      = linearAt (zbIn m c) (codesIn m c) (scalesIn m c)
          ⟨1024 * (t.val % 12) + (y 0).val, by have := idx2_lt0 (n0 := 1024) (n1 := 512) y; omega⟩
          ⟨512 * (t.val / 12) + (y 1).val, by have := idx2_lt1 (n0 := 1024) (n1 := 512) y; have := blk_lt t; omega⟩ := by
  have key : (outsAt0 m c t.val t.isLt).1 y = prodAt (iblk m c 0 t) (blockWeights m c (t.val / 12) (blk_lt t)) (y 0) (y 1) := by
    by_cases h0 : t.val % 12 = 0
    · rw [outsAt0_A m c t h0]
      dsimp only
      rw [out_A, weights_iblk]
    · rw [outsAt0_B m c t h0]
      dsimp only
      rw [out_B, scratch_eq m c (t.val - 1), blockWeights_congr m c ((t.val - 1) / 12) (t.val / 12) _ (blk_lt t) (by omega)]
  rw [key]
  unfold prodAt linearAt
  refine Finset.sum_congr rfl fun k _ => ?_
  exact congrArg (· * blockWeights m c (t.val / 12) (blk_lt t) (ix2 k (y 1))) (iblk0_apply m c t (y 0) k)

/-- The result array at an index. -/
theorem G3_apply (i : S12288x18944.Idx) :
    Value.G3 m c i = linearAt (zbIn m c) (codesIn m c) (scalesIn m c) (i 0) (i 1) := by
  have h0 := idx2_lt0 (n0 := 12288) (n1 := 18944) i
  have h1 := idx2_lt1 (n0 := 12288) (n1 := 18944) i
  have hp : Value.pt3Of i = (i 0).val / 1024 + 12 * ((i 1).val / 512) := by
    show 1 * ((i 0).val / 1024 - 0) + 12 * ((i 1).val / 512 - 0) = _; omega
  have hlt : Value.pt3Of i < cfg0.N := lt_of_lt_of_eq (by rw [hp]; omega) N_0.symm
  unfold Value.G3
  rw [dif_pos hlt, ← Value.outsAt0_sweep m c (Value.pt3Of i) hlt]
  refine (block_eq m c ⟨Value.pt3Of i, hlt⟩ (Value.loc3Of i)).trans ?_
  congr 1
  · refine Fin.ext ?_
    show 1024 * (Value.pt3Of i % 12) + (i 0).val % 1024 = (i 0).val
    rw [hp]; omega
  · refine Fin.ext ?_
    show 512 * (Value.pt3Of i / 12) + (i 1).val % 512 = (i 1).val
    rw [hp]; omega

end Cert.LinearIdeal.Gen

end
-- ==== Proof.Ref.lean ====
/- What the reference computes: its result at row `a` and column `b` is the sum over `k` of `zb[a, k]` times the weight
   of row `k` and column `b`.

   `nibLo` and `nibHi` are the two signed nibbles of every packed byte as the reference takes them; `half` multiplies
   one of them by the scales of the even or of the odd columns. The two products are interleaved, so an even column
   comes from the low nibbles and an odd column from the high ones. -/
module

public import proofs.«01_k».proof.Proof.Array
public import proofs.«01_k».proof.Proof.Gen.LinearReferenceIdeal.Run
public import Idealize.ShloMosaic.Lib.StackMember
public import Idealize.ShloMosaic.Lib.Pointwise.ShapeOpsCore

@[expose] public section

set_option maxRecDepth 16384

noncomputable section

namespace Cert.LinearReferenceIdeal.Value

open Cert.LinearReferenceIdeal Cert.LinearReferenceIdeal.Gen Idealize.ShloMosaic.TcCoe Idealize.ShloMosaic.ValueIdx
open Idealize.ShloMosaic hiding ix2 ix3
open Cert.LinearIdeal.Gen (nib sgn4 nib_even nib_odd weightOf linearAt)
open scoped BigOperators

/-- The signed low nibbles, as words. -/
abbrev nibLo (codes : IVec S3584x9472 8) : IVec S3584x9472 32 :=
  select (cmpi .sge (andi (extui 32 codes natLt_8_32) (broadcastInDim S3584x9472 ![] bcast_S_S3584x9472 (constantI S_ 32 15#32))) (broadcastInDim S3584x9472 ![] bcast_S_S3584x9472 (constantI S_ 32 8#32))) (subi (andi (extui 32 codes natLt_8_32) (broadcastInDim S3584x9472 ![] bcast_S_S3584x9472 (constantI S_ 32 15#32))) (broadcastInDim S3584x9472 ![] bcast_S_S3584x9472 (constantI S_ 32 16#32))) (andi (extui 32 codes natLt_8_32) (broadcastInDim S3584x9472 ![] bcast_S_S3584x9472 (constantI S_ 32 15#32)))

/-- The signed high nibbles, as words. -/
abbrev nibHi (codes : IVec S3584x9472 8) : IVec S3584x9472 32 :=
  select (cmpi .sge (Host.shrsi (extui 32 codes natLt_8_32) (broadcastInDim S3584x9472 ![] bcast_S_S3584x9472 (constantI S_ 32 4#32))) (broadcastInDim S3584x9472 ![] bcast_S_S3584x9472 (constantI S_ 32 8#32))) (subi (Host.shrsi (extui 32 codes natLt_8_32) (broadcastInDim S3584x9472 ![] bcast_S_S3584x9472 (constantI S_ 32 4#32))) (broadcastInDim S3584x9472 ![] bcast_S_S3584x9472 (constantI S_ 32 16#32))) (Host.shrsi (extui 32 codes natLt_8_32) (broadcastInDim S3584x9472 ![] bcast_S_S3584x9472 (constantI S_ 32 4#32)))

/-- The scales of the even columns, and those of the odd ones. -/
abbrev scEven (sc : FVec Ideal S28x18944 .bf16) : FVec Ideal S28x9472 .bf16 := Host.slice S28x9472 ![0, 0] ![1, 2] sc slicesBy_S28x18944_S28x9472_0s1_0s2
abbrev scOdd (sc : FVec Ideal S28x18944 .bf16) : FVec Ideal S28x9472 .bf16 := Host.slice S28x9472 ![0, 1] ![1, 2] sc slicesBy_S28x18944_S28x9472_0s1_1s2

/-- Half of the weights: nibbles times the scales of their groups of 128 rows. -/
abbrev half (n : IVec S3584x9472 32) (s : FVec Ideal S28x9472 .bf16) : FVec Ideal S3584x9472 .bf16 :=
  shapeCast S3584x9472 (mulf (shapeCast S28x128x9472 (sitofp (F := Ideal) .bf16 n) shapeCasts_S3584x9472_S28x128x9472) (broadcastInDim S28x128x9472 ![0, 1, 2] bcast_S28x1x9472_S28x128x9472_0_1_2 (broadcastInDim S28x1x9472 ![0, 2] bcast_S28x9472_S28x1x9472_0_2 s))) shapeCasts_S28x128x9472_S3584x9472

/-- The columns of one half of the result. -/
abbrev prod (zb : FVec Ideal S12288x3584 .bf16) (w : FVec Ideal S3584x9472 .bf16) : FVec Ideal S12288x9472 .f32 :=
  Host.dotGeneral dot_S12288x3584_S3584x9472_S12288x9472_1_0_0_1_n_n none zb w

/-- The reference's result. -/
abbrev result (zb : FVec Ideal S12288x3584 .bf16) (codes : IVec S3584x9472 8) (sc : FVec Ideal S28x18944 .bf16) :
    FVec Ideal S12288x18944 .bf16 :=
  truncf .bf16 (shapeCast S12288x18944 (concatenate S12288x9472x2 2
    [⟨S12288x9472x1, broadcastInDim S12288x9472x1 ![0, 1] bcast_S12288x9472_S12288x9472x1_0_1 (prod zb (half (nibLo codes) (scEven sc)))⟩,
     ⟨S12288x9472x1, broadcastInDim S12288x9472x1 ![0, 1] bcast_S12288x9472_S12288x9472x1_0_1 (prod zb (half (nibHi codes) (scOdd sc)))⟩]
    concatenates_S12288x9472x1_S12288x9472x1_S12288x9472x2_d2) shapeCasts_S12288x9472x2_S12288x18944) bitsLt_bf16_f32

theorem lo_word : ∀ x : BitVec 8,
    (Scalar.select (IntOp.cmpi .sge (IntOp.andi (x.setWidth 32) 15#32) 8#32)
      (IntOp.subi (IntOp.andi (x.setWidth 32) 15#32) 16#32) (IntOp.andi (x.setWidth 32) 15#32)).toInt = nib x 0 := by decide +kernel

theorem hi_word : ∀ x : BitVec 8,
    (Scalar.select (IntOp.cmpi .sge (IntOp.shrsi .host (x.setWidth 32) 4#32) 8#32)
      (IntOp.subi (IntOp.shrsi .host (x.setWidth 32) 4#32) 16#32) (IntOp.shrsi .host (x.setWidth 32) 4#32)).toInt = nib x 1 := by decide +kernel

theorem nibLo_toInt (codes : IVec S3584x9472 8) (i : S3584x9472.Idx) : (nibLo codes i).toInt = nib (codes i) 0 := lo_word (codes i)
theorem nibHi_toInt (codes : IVec S3584x9472 8) (i : S3584x9472.Idx) : (nibHi codes i).toInt = nib (codes i) 1 := hi_word (codes i)

theorem scEven_apply (sc : FVec Ideal S28x18944 .bf16) (g : Fin 28) (j : Fin 9472) (b : Fin 18944) (hb : b.val = 2 * j.val) :
    scEven sc (ix2 g j) = sc (ix2 g b) := by
  unfold scEven
  rw [Host.slice_apply]
  refine congrArg sc (funext fun d => ?_)
  match d with
  | ⟨0, _⟩ => exact Fin.ext (by show 0 + 1 * g.val = g.val; omega)
  | ⟨1, _⟩ => exact Fin.ext (by show 0 + 2 * j.val = b.val; omega)

theorem scOdd_apply (sc : FVec Ideal S28x18944 .bf16) (g : Fin 28) (j : Fin 9472) (b : Fin 18944) (hb : b.val = 2 * j.val + 1) :
    scOdd sc (ix2 g j) = sc (ix2 g b) := by
  unfold scOdd
  rw [Host.slice_apply]
  refine congrArg sc (funext fun d => ?_)
  match d with
  | ⟨0, _⟩ => exact Fin.ext (by show 0 + 1 * g.val = g.val; omega)
  | ⟨1, _⟩ => exact Fin.ext (by show 1 + 2 * j.val = b.val; omega)

/-- Half of the weights at an index. -/
theorem half_apply (n : IVec S3584x9472 32) (s : FVec Ideal S28x9472 .bf16) (k : Fin 3584) (j : Fin 9472) :
    half n s (ix2 k j) = ((((n (ix2 k j)).toInt : ℤ) : ℝ) : EReal) * s (ix2 ⟨k.val / 128, by omega⟩ j) := by
  unfold half
  rw [shapeCast_apply _ _ _ (ix3 (⟨k.val / 128, by omega⟩ : Fin 28) (⟨k.val % 128, by omega⟩ : Fin 128) j)
    (by rw [Shape.rowMajor_val_three, Shape.rowMajor_val_two]
        show ((k.val / 128) * 128 + k.val % 128) * 9472 + j.val = k.val * 9472 + j.val
        congr 2; omega), mulf_apply]
  rw [shapeCast_apply _ _ _ (ix2 k j)
    (by rw [Shape.rowMajor_val_three, Shape.rowMajor_val_two]
        show k.val * 9472 + j.val = ((k.val / 128) * 128 + k.val % 128) * 9472 + j.val
        congr 2; omega)]
  congr 1
  rw [broadcastInDim_apply _ _ _ _ (ix3 (⟨k.val / 128, by omega⟩ : Fin 28) (0 : Fin 1) j) (fun a => by
      match a with | ⟨0, _⟩ => rfl | ⟨1, _⟩ => rfl | ⟨2, _⟩ => rfl),
    broadcastInDim_apply _ _ _ _ (ix2 (⟨k.val / 128, by omega⟩ : Fin 28) j) (fun a => by
      match a with | ⟨0, _⟩ => rfl | ⟨1, _⟩ => rfl)]

theorem prod_apply (zb : FVec Ideal S12288x3584 .bf16) (w : FVec Ideal S3584x9472 .bf16) (a : Fin 12288) (j : Fin 9472) :
    prod zb w (ix2 a j) = ∑ k : Fin 3584, zb (ix2 a k) * w (ix2 k j) :=
  StackMember.dotGeneral_plain_apply (m := 12288) (n := 9472) (k := 3584) none zb w a j

theorem split_apply (x : FVec Ideal S12288x9472 .f32) (a : Fin 12288) (j : Fin 9472) :
    broadcastInDim S12288x9472x1 ![0, 1] bcast_S12288x9472_S12288x9472x1_0_1 x (ix3 a j (0 : Fin 1)) = x (ix2 a j) :=
  broadcastInDim_apply _ _ _ _ (ix2 a j) (fun d => by match d with | ⟨0, _⟩ => rfl | ⟨1, _⟩ => rfl)

/-- The two halves side by side: column 0 of the last axis is the first, column 1 the second. -/
theorem pair_apply_zero (x y : FVec Ideal S12288x9472x1 .f32) (a : Fin 12288) (j : Fin 9472) (l : Fin 2) (h : l.val = 0) :
    concatenate S12288x9472x2 2 [⟨S12288x9472x1, x⟩, ⟨S12288x9472x1, y⟩]
      concatenates_S12288x9472x1_S12288x9472x1_S12288x9472x2_d2 (ix3 a j l) = x (ix3 a j (0 : Fin 1)) :=
  concatenate_pair_apply_left (t := S12288x9472x2) (s₁ := S12288x9472x1) (s₂ := S12288x9472x1) 2 x y _ (ix3 a j l) rfl
    (ix3 a j (0 : Fin 1)) (fun d => by match d with | ⟨0, _⟩ => rfl | ⟨1, _⟩ => rfl | ⟨2, _⟩ => exact h.symm)

theorem pair_apply_one (x y : FVec Ideal S12288x9472x1 .f32) (a : Fin 12288) (j : Fin 9472) (l : Fin 2) (h : l.val = 1) :
    concatenate S12288x9472x2 2 [⟨S12288x9472x1, x⟩, ⟨S12288x9472x1, y⟩]
      concatenates_S12288x9472x1_S12288x9472x1_S12288x9472x2_d2 (ix3 a j l) = y (ix3 a j (0 : Fin 1)) :=
  concatenate_pair_apply_right (t := S12288x9472x2) (s₁ := S12288x9472x1) (s₂ := S12288x9472x1) 2 x y _ (ix3 a j l) rfl rfl
    (ix3 a j (0 : Fin 1)) (fun d hd => by
      match d, hd with | ⟨0, _⟩, _ => rfl | ⟨1, _⟩, _ => rfl | ⟨2, _⟩, hd => exact absurd rfl hd)
    (by show 0 + 1 = l.val; omega)

/-- The reference's result at an index. -/
theorem result_apply (zb : FVec Ideal S12288x3584 .bf16) (codes : IVec S3584x9472 8) (sc : FVec Ideal S28x18944 .bf16)
    (a : Fin 12288) (b : Fin 18944) :
    result zb codes sc (ix2 a b) = linearAt zb codes sc a b := by
  unfold result linearAt
  rw [truncf_apply, shapeCast_apply _ _ _ (ix3 a (⟨b.val / 2, by omega⟩ : Fin 9472) (⟨b.val % 2, by omega⟩ : Fin 2))
    (by rw [Shape.rowMajor_val_three, Shape.rowMajor_val_two]
        show (a.val * 9472 + b.val / 2) * 2 + b.val % 2 = a.val * 18944 + b.val
        omega)]
  by_cases h : b.val % 2 = 0
  · rw [pair_apply_zero _ _ _ _ _ h, split_apply, prod_apply]
    refine Finset.sum_congr rfl fun k _ => ?_
    rw [half_apply, nibLo_toInt, scEven_apply sc _ _ b (by dsimp only; omega), ← nib_even _ b.val h]
    rfl
  · rw [pair_apply_one _ _ _ _ _ (by dsimp only; omega), split_apply, prod_apply]
    refine Finset.sum_congr rfl fun k _ => ?_
    rw [half_apply, nibHi_toInt, scOdd_apply sc _ _ b (by dsimp only; omega), ← nib_odd _ b.val h]
    rfl

end Cert.LinearReferenceIdeal.Value

end
-- ==== Proof.ProjMath.lean ====
/- The mathematics of the projection, over the real numbers.

   A product of twenty reflections is one projection with a triangular factor. The kernel never forms that factor: it
   takes the unit rows, doubled, and subtracts from each row the multiples of the later rows (`elim`). The reference
   inverts the triangular matrix by back-substitution (`back`) and multiplies. `combined` says that the two give the
   same row of coefficients, since both solve one triangular system, whose solution is unique. -/
module

public import Idealize.ShloMosaic.Lib.ValueIdx

@[expose] public section

noncomputable section

namespace Cert.Proj

open scoped BigOperators

variable (G : ℕ → ℕ → ℝ) (h : ℕ → ℝ)

/-- One column of the kernel's array after its first `n` steps: the step for row `i` (19 first) subtracts from each
    earlier row `r` twice `G r i` times row `i`. -/
def elim : ℕ → ℕ → ℝ
  | 0, r => 2 * h r
  | n + 1, r => elim n r - (if r < 19 - n then 2 * G r (19 - n) else 0) * elim n (19 - n)

/-- The triangular matrix: one half on the diagonal, `G` above it. -/
def tri (i l : ℕ) : ℝ := (if i = l then 1 / 2 else 0) + (if i < l then G i l else 0)

/-- The reference's back-substitution after `n` trips: trip `n` computes row `19 - n`. -/
def back : ℕ → ℕ → ℕ → ℝ
  | 0, _, _ => 0
  | n + 1, i, k => if i = 19 - n then ((if i = k then 1 else 0) - ∑ l ∈ Finset.range 20, tri G i l * back n l k) / (1 / 2)
      else back n i k

theorem back_succ (n i k : ℕ) : back G (n + 1) i k
    = if i = 19 - n then ((if i = k then 1 else 0) - ∑ l ∈ Finset.range 20, tri G i l * back G n l k) / (1 / 2)
      else back G n i k := rfl

theorem elim_succ (n r : ℕ) : elim G h (n + 1) r
    = elim G h n r - (if r < 19 - n then 2 * G r (19 - n) else 0) * elim G h n (19 - n) := rfl

theorem elim_of_le (n r : ℕ) (hr : 19 - n ≤ r) : elim G h (n + 1) r = elim G h n r := by
  rw [elim_succ, if_neg (by omega)]; ring

theorem elim_inv : ∀ n, n ≤ 19 → ∀ r, elim G h n r
    + ∑ i ∈ Finset.range 20, (if 20 - n ≤ i ∧ r < i then 2 * G r i * elim G h n i else 0) = 2 * h r
  | 0, _, r => by
    rw [Finset.sum_eq_zero fun i hi => if_neg (by have := Finset.mem_range.mp hi; omega)]
    simp [elim]
  | n + 1, hn, r => by
    have ih := elim_inv n (by omega) r
    have e : ∑ i ∈ Finset.range 20, (if 20 - (n + 1) ≤ i ∧ r < i then 2 * G r i * elim G h (n + 1) i else 0)
        = ∑ i ∈ Finset.range 20, ((if 20 - n ≤ i ∧ r < i then 2 * G r i * elim G h n i else 0)
          + (if i = 19 - n then (if r < 19 - n then 2 * G r (19 - n) else 0) * elim G h n (19 - n) else 0)) := by
      refine Finset.sum_congr rfl fun i hi => ?_
      by_cases h1 : i = 19 - n
      · subst h1
        by_cases h2 : r < 19 - n
        · rw [if_pos ⟨by omega, h2⟩, if_neg (by omega), if_pos rfl, if_pos h2, elim_of_le _ _ _ _ le_rfl]; ring
        · rw [if_neg (by omega), if_neg (by omega), if_pos rfl, if_neg h2]; ring
      · by_cases h2 : 20 - n ≤ i ∧ r < i
        · rw [if_pos ⟨by omega, h2.2⟩, if_pos h2, if_neg h1, elim_of_le _ _ _ _ (by omega)]; ring
        · rw [if_neg (by omega), if_neg h2, if_neg h1]; ring
    rw [e, Finset.sum_add_distrib, Finset.sum_ite_eq', if_pos (Finset.mem_range.mpr (by omega)), ← ih]
    rw [elim_succ]
    ring

/-- The kernel's rows solve the triangular system. -/
theorem elim_solves (r : ℕ) : elim G h 19 r
    = 2 * h r - ∑ i ∈ Finset.range 20, (if r < i then 2 * G r i * elim G h 19 i else 0) := by
  have := elim_inv G h 19 le_rfl r
  rw [← this]
  have e : ∀ i, (20 - 19 ≤ i ∧ r < i) ↔ r < i := fun i => by omega
  simp only [e]
  ring

theorem tri_sum (i : ℕ) (hi : i < 20) (f : ℕ → ℝ) : ∑ l ∈ Finset.range 20, tri G i l * f l
    = 1 / 2 * f i + ∑ l ∈ Finset.range 20, (if i < l then G i l * f l else 0) := by
  have e : ∀ l, tri G i l * f l = (if i = l then 1 / 2 * f l else 0) + (if i < l then G i l * f l else 0) := fun l => by
    unfold tri; split_ifs <;> ring
  simp only [e]
  rw [Finset.sum_add_distrib, Finset.sum_ite_eq, if_pos (Finset.mem_range.mpr hi)]

theorem back_inv : ∀ n, n ≤ 20 → ∀ k,
    (∀ i, i < 20 → 20 - n ≤ i → 1 / 2 * back G n i k + ∑ l ∈ Finset.range 20, (if i < l then G i l * back G n l k else 0)
      = if i = k then 1 else 0) ∧ (∀ i, i < 20 - n → back G n i k = 0)
  | 0, _, k => ⟨fun i _ _ => by omega, fun _ _ => rfl⟩
  | n + 1, hn, k => by
    obtain ⟨ih1, ih2⟩ := back_inv n (by omega) k
    have off : ∀ l, l ≠ 19 - n → back G (n + 1) l k = back G n l k := fun l hl => by
      rw [back, if_neg hl]
    have sums : ∀ i, 19 - n ≤ i → ∑ l ∈ Finset.range 20, (if i < l then G i l * back G (n + 1) l k else 0)
        = ∑ l ∈ Finset.range 20, (if i < l then G i l * back G n l k else 0) := fun i hi =>
      Finset.sum_congr rfl fun l _ => by
        by_cases hl : i < l
        · rw [if_pos hl, if_pos hl, off l (by omega)]
        · rw [if_neg hl, if_neg hl]
    refine ⟨fun i hi hi' => ?_, fun i hi => ?_⟩
    · rw [sums i (by omega)]
      by_cases e : i = 19 - n
      · subst e
        rw [back, if_pos rfl, tri_sum G _ hi, ih2 _ (by omega)]
        ring
      · rw [off i e, ih1 i hi (by omega)]
    · rw [off i (by omega), ih2 i (by omega)]

/-- The reference's matrix solves the triangular system. -/
theorem back_solves (i k : ℕ) (hi : i < 20) : back G 20 i k
    = 2 * (if i = k then 1 else 0) - ∑ l ∈ Finset.range 20, (if i < l then 2 * G i l * back G 20 l k else 0) := by
  have h0 := (back_inv G 20 le_rfl k).1 i hi (by omega)
  have e : ∑ l ∈ Finset.range 20, (if i < l then 2 * G i l * back G 20 l k else 0)
      = 2 * ∑ l ∈ Finset.range 20, (if i < l then G i l * back G 20 l k else 0) := by
    rw [Finset.mul_sum]
    exact Finset.sum_congr rfl fun l _ => by split_ifs <;> ring
  rw [e, ← h0]; ring

/-- The system has one solution. -/
theorem unique (b f g : ℕ → ℝ)
    (hf : ∀ r, r < 20 → f r = b r - ∑ i ∈ Finset.range 20, (if r < i then 2 * G r i * f i else 0))
    (hg : ∀ r, r < 20 → g r = b r - ∑ i ∈ Finset.range 20, (if r < i then 2 * G r i * g i else 0)) :
    ∀ n r, r < 20 → 20 - r ≤ n → f r = g r
  | 0, r, hr, h => by omega
  | n + 1, r, hr, h => by
    rw [hf r hr, hg r hr]
    congr 1
    refine Finset.sum_congr rfl fun i hi => ?_
    by_cases hri : r < i
    · rw [if_pos hri, if_pos hri, unique b f g hf hg n i (Finset.mem_range.mp hi) (by omega)]
    · rw [if_neg hri, if_neg hri]

/-- The kernel's row is the reference's matrix times the unit rows. -/
theorem elim_eq_back (r : ℕ) (hr : r < 20) :
    elim G h 19 r = ∑ k ∈ Finset.range 20, back G 20 r k * h k := by
  refine unique G (fun r => 2 * h r) _ (fun r => ∑ k ∈ Finset.range 20, back G 20 r k * h k)
    (fun r _ => elim_solves G h r) (fun r hr => ?_) 20 r hr (by omega)
  have e1 : ∑ k ∈ Finset.range 20, 2 * (if r = k then (1 : ℝ) else 0) * h k = 2 * h r := by
    have : ∀ k, 2 * (if r = k then (1 : ℝ) else 0) * h k = if r = k then 2 * h k else 0 := fun k => by split_ifs <;> ring
    simp only [this]
    rw [Finset.sum_ite_eq, if_pos (Finset.mem_range.mpr hr)]
  have e2 : ∑ i ∈ Finset.range 20, (if r < i then 2 * G r i * ∑ k ∈ Finset.range 20, back G 20 i k * h k else 0)
      = ∑ k ∈ Finset.range 20, (∑ l ∈ Finset.range 20, (if r < l then 2 * G r l * back G 20 l k else 0)) * h k := by
    simp only [Finset.sum_mul]
    rw [Finset.sum_comm]
    refine Finset.sum_congr rfl fun i _ => ?_
    by_cases hri : r < i
    · simp only [if_pos hri]
      rw [Finset.mul_sum]
      exact Finset.sum_congr rfl fun k _ => by ring
    · simp only [if_neg hri, zero_mul, Finset.sum_const_zero]
  show ∑ k ∈ Finset.range 20, back G 20 r k * h k = _
  rw [e2, ← e1, ← Finset.sum_sub_distrib]
  refine Finset.sum_congr rfl fun k _ => ?_
  conv_lhs => rw [back_solves G r k hr]
  ring

/-- Coefficients `p` applied through the kernel's rows or through the reference's matrix and the unit rows. -/
theorem combined (p : ℕ → ℝ) : ∑ r ∈ Finset.range 20, p r * elim G h 19 r
    = ∑ t ∈ Finset.range 20, (∑ r ∈ Finset.range 20, p r * back G 20 r t) * h t := by
  simp only [Finset.sum_mul]
  rw [Finset.sum_comm]
  refine Finset.sum_congr rfl fun r hr => ?_
  rw [elim_eq_back G h r (Finset.mem_range.mp hr), Finset.mul_sum]
  exact Finset.sum_congr rfl fun t _ => by ring

end Cert.Proj

end
-- ==== Proof.ProjPrep.lean ====
/- The preparation of `hra_project`: what its first grid point leaves in the two small scratch arrays.

   The first array holds the unit rows (`unitR`), with four zero rows after them. The second starts at twice the
   first, and nineteen steps subtract multiples of the later rows from the earlier ones (`stepOf`, one chain of
   operations for every step). `canon_step` says what one step leaves, and `canon_rows` chains the nineteen. All
   values are finite here: the unit rows are real numbers (`Normed`). -/
module

public import proofs.«01_k».proof.Proof.ProjMath
public import proofs.«01_k».proof.Proof.Gen.ProjectIdeal.Value
public import Idealize.ShloMosaic.Lib.ValueIdx
public import Idealize.ShloMosaic.Lib.WholeRead

@[expose] public section

set_option maxRecDepth 16384

noncomputable section

namespace Cert.Proj

open scoped BigOperators

/-- The 20 unit rows, zero from row 20 on. -/
def unitR (U : Fin 20 → Fin 3584 → ℝ) (r : ℕ) (k : Fin 3584) : ℝ := if h : r < 20 then U ⟨r, h⟩ k else 0

/-- The inner product of two unit rows. -/
def gramR (U : Fin 20 → Fin 3584 → ℝ) (r s : ℕ) : ℝ := ∑ k, unitR U r k * unitR U s k

/-- The rows of the second array after `n` steps. -/
def rowsR (U : Fin 20 → Fin 3584 → ℝ) (n r : ℕ) (k : Fin 3584) : ℝ := elim (gramR U) (fun i => unitR U i k) n r

/-- A finite sum of real numbers, summed over the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Proj

namespace Cert.ProjectIdeal.Gen

open Idealize.ShloMosaic Idealize.ShloMosaic.TcCoe Idealize.ShloMosaic.Tactic Idealize.ShloMosaic.ValueIdx
open Cert.Proj
open scoped BigOperators

/-- An array whose element at row `r` and column `k` is the real number `f r k`. -/
def lift {R C : ℕ} (f : ℕ → Fin C → ℝ) : (⟨2, ![R, C]⟩ : Shape).Idx → EReal := fun y => ((f (y 0).val (y 1) : ℝ) : EReal)

theorem lift_ix2 {R C : ℕ} (f : ℕ → Fin C → ℝ) (r : Fin R) (k : Fin C) : lift f (ix2 r k) = ((f r.val k : ℝ) : EReal) := rfl

/-- `U` are the rows of `x`, each divided by the square root of the sum of its squares. -/
def Normed (x : (⟨2, ![20, 3584]⟩ : Shape).Idx → EReal) (U : Fin 20 → Fin 3584 → ℝ) : Prop :=
  ∀ r k, Ideal.div (x (ix2 r k)) (Ideal.sqrt (∑ j, x (ix2 r j) * x (ix2 r j))) = ((U r k : ℝ) : EReal)

section Step

variable {F : FTy → Type} [FloatOps F]

/-- One step of the preparation: from the array `A`, the multiples of its row `a` that the column `i` of the
    inner products gives for the rows before `i`. -/
def stepOf (i : ℕ) (hs : S24x24.Slices ![0, i] S24x1) (G : FVec F S24x24 .f32) (A : Vec F S24x3584 .f32) (a : Vec F S1x3584 .f32) :
    FVec F S24x3584 .f32 :=
  shapeCast S24x3584
    (subf A (mulf
      (broadcastTo S24x3584
        (select (cmpi .slt (iota .tc S24x1 32 [0] iota_S24x1_d0_w32) (broadcast S24x1 (BitVec.ofNat 32 i)))
          (mulf (broadcast S24x1 (Scalar.ofBits .f32 0x40000000#32)) (extractStridedSlice S24x1 ![0, i] G hs))
          (broadcast S24x1 (Scalar.ofBits .f32 0x00000000#32))) broadcasts_S24x1_S24x3584)
      (broadcastTo S24x3584 a broadcasts_S1x3584_S24x3584))) shapeCasts_S24x3584_S24x3584

end Step

theorem two_f32 : Ideal.ofBits .f32 0x40000000#32 = ((2 : ℝ) : EReal) := by
  simp [Ideal.ofBits, Ideal.ieee, -EReal.coe_mul]; norm_num

theorem zero_f32 : Ideal.ofBits .f32 0x00000000#32 = ((0 : ℝ) : EReal) := by
  simp [Ideal.ofBits, Ideal.ieee]

/-- The comparison of row numbers, as words. -/
theorem row_lt : ∀ (r : Fin 24) (i : Fin 20), IntOp.cmpi .slt (BitVec.ofNat 32 r.val) (BitVec.ofNat 32 i.val) = if r.val < i.val then 1#1 else 0#1 := by
  decide +kernel

/-- One step at an index. -/
theorem stepOf_apply (i : ℕ) (hi : i < 20) (hs : S24x24.Slices ![0, i] S24x1) (g : ℕ → ℕ → ℝ) (e : ℕ → Fin 3584 → ℝ)
    (G : FVec Ideal S24x24 .f32) (A : Vec Ideal S24x3584 .f32) (a : Vec Ideal S1x3584 .f32)
    (hG : ∀ r s : Fin 24, G (ix2 r s) = ((g r.val s.val : ℝ) : EReal))
    (hA : ∀ (r : Fin 24) (k : Fin 3584), A (ix2 r k) = ((e r.val k : ℝ) : EReal))
    (ha : ∀ k : Fin 3584, a (ix2 0 k) = ((e i k : ℝ) : EReal)) (r : Fin 24) (k : Fin 3584) :
    stepOf (F := Ideal) i hs G A a (ix2 r k) = ((e r.val k - (if r.val < i then 2 * g r.val i else 0) * e i k : ℝ) : EReal) := by
  unfold stepOf
  rw [shapeCast_self, subf_apply, mulf_apply]
  have h1 : ∀ z : Vec Ideal S24x1 .f32, broadcastTo S24x3584 z broadcasts_S24x1_S24x3584 (ix2 r k) = z (ix2 r 0) := fun z => by
    refine broadcastTo_apply _ _ _ _ ?_
    intro a
    match a with
    | ⟨0, _⟩ => rfl
    | ⟨1, _⟩ => rfl
  have h2 : broadcastTo S24x3584 a broadcasts_S1x3584_S24x3584 (ix2 r k) = a (ix2 0 k) := by
    refine broadcastTo_apply _ _ _ _ ?_
    intro a
    match a with
    | ⟨0, _⟩ => rfl
    | ⟨1, _⟩ => rfl
  have h3 : extractStridedSlice S24x1 ![0, i] G hs (ix2 r 0) = G (ix2 r ⟨i, by omega⟩) := by
    refine extractStridedSlice_apply _ _ _ _ _ ?_
    intro a
    match a with
    | ⟨0, _⟩ => show r.val = 0 + r.val; omega
    | ⟨1, _⟩ => show i = i + 0; omega
  rw [h1, h2, ha, hA]
  have h4 : (select (cmpi .slt (iota .tc S24x1 32 [0] iota_S24x1_d0_w32) (broadcast S24x1 (BitVec.ofNat 32 i)))
          (mulf (broadcast S24x1 (Scalar.ofBits .f32 0x40000000#32)) (extractStridedSlice S24x1 ![0, i] G hs))
          (broadcast S24x1 (Scalar.ofBits .f32 0x00000000#32)) : FVec Ideal S24x1 .f32) (ix2 r 0)
      = (((if r.val < i then 2 * g r.val i else 0) : ℝ) : EReal) := by
    show Scalar.select (IntOp.cmpi .slt (iota .tc S24x1 32 [0] iota_S24x1_d0_w32 (ix2 r 0)) (BitVec.ofNat 32 i))
      (Ideal.ofBits .f32 0x40000000#32 * extractStridedSlice S24x1 ![0, i] G hs (ix2 r 0)) (Ideal.ofBits .f32 0x00000000#32) = _
    rw [h3, hG, two_f32, zero_f32, ← EReal.coe_mul,
      show iota .tc S24x1 32 [0] iota_S24x1_d0_w32 (ix2 r 0) = BitVec.ofNat 32 r.val from iota_single_apply _ _ _ _ _ _,
      row_lt r ⟨i, hi⟩]
    by_cases h : r.val < i
    · simp only [h, if_true]; rfl
    · simp only [h, if_false]; rfl
  rw [h4, ← EReal.coe_mul, ← EReal.coe_sub]

/-- The load rectangle of row `i`. -/
theorem inbRow (i : ℕ) (hi : i < 24) (a : Fin S24x3584.rank) : (![i, 0] : Fin 2 → Nat) a + S1x3584.size a ≤ S24x3584.size a := by
  match a with
  | ⟨0, _⟩ => show i + 1 ≤ 24; omega
  | ⟨1, _⟩ => show 0 + 3584 ≤ 3584; omega

/-- The load rectangle of a whole rank-2 array reads each index at itself. -/
theorem whole_idx {n0 n1 : Nat} (inb : ∀ a : Fin 2, (![0, 0] : Fin 2 → Nat) a + (⟨2, ![n0, n1]⟩ : Shape).size a ≤ (⟨2, ![n0, n1]⟩ : Shape).size a)
    (x : (⟨2, ![n0, n1]⟩ : Shape).Idx) :
    (Rect.unit (s := ⟨2, ![n0, n1]⟩) ![0, 0] (⟨2, ![n0, n1]⟩ : Shape).size inb).toLoadRect.idx x = x := by
  funext d
  match d with
  | ⟨0, _⟩ => exact Fin.ext (by show 0 + 1 * (x 0).val = (x 0).val; omega)
  | ⟨1, _⟩ => exact Fin.ext (by show 0 + 1 * (x 1).val = (x 1).val; omega)

/-- A last store of the whole array leaves its payload. -/
theorem whole_canon {e : EltTy} {n0 n1 : Nat} (inb : ∀ a : Fin 2, (![0, 0] : Fin 2 → Nat) a + (⟨2, ![n0, n1]⟩ : Shape).size a ≤ (⟨2, ![n0, n1]⟩ : Shape).size a)
    (w : (⟨2, ![n0, n1]⟩ : Shape).Idx → Elt Ideal e) (L : List (View.Piece (Elt Ideal) ⟨2, ![n0, n1]⟩ e)) :
    View.canon (Val := Elt Ideal) (s := ⟨2, ![n0, n1]⟩) (e := e)
      (⟨Rect.unit (s := ⟨2, ![n0, n1]⟩) ![0, 0] (⟨2, ![n0, n1]⟩ : Shape).size inb, w⟩ :: L) = w := by
  funext y
  have h := View.canon_cons_emb (Val := Elt Ideal) (e := e)
    (Rect.unit (s := ⟨2, ![n0, n1]⟩) ![0, 0] (⟨2, ![n0, n1]⟩ : Shape).size inb) w L y
  rwa [show (Rect.unit (s := ⟨2, ![n0, n1]⟩) ![0, 0] (⟨2, ![n0, n1]⟩ : Shape).size inb).emb y = y from whole_idx inb y] at h

theorem slices_col (i : ℕ) (hi : i < 24) : S24x24.Slices ![0, i] S24x1 :=
  (by decide +kernel : ∀ i : Fin 24, S24x24.Slices ![0, i.val] S24x1) ⟨i, hi⟩

variable (U : Fin 20 → Fin 3584 → ℝ)

/-- What one step leaves in the second array, whatever was stored before. -/
theorem canon_step (n : ℕ) (hn : n < 19) (arg5 : Memref sig .tc .vmem S24x3584 .f32) (G : FVec Ideal S24x24 .f32)
    (hG : ∀ r s : Fin 24, G (ix2 r s) = ((gramR U r.val s.val : ℝ) : EReal))
    (L : List (View.Piece (Elt Ideal) S24x3584 .f32)) (hL : View.canon L = lift (rowsR U n)) (p : FVec Ideal S24x3584 .f32)
    (hp : p = stepOf (F := Ideal) (19 - n) (slices_col (19 - n) (by omega)) G
      (arg5.view.readCov L (Rect.unit (s := S24x3584) ![0, 0] S24x3584.size inb_S24x3584_S24x3584_0_0).toLoadRect)
      (arg5.view.readCov L (Rect.unit (s := S24x3584) ![19 - n, 0] S1x3584.size (inbRow (19 - n) (by omega))).toLoadRect)) :
    View.canon ((⟨Rect.unit (s := S24x3584) ![0, 0] S24x3584.size inb_S24x3584_S24x3584_0_0, p⟩ :
      View.Piece (Elt Ideal) S24x3584 .f32) :: L) = lift (rowsR U (n + 1)) := by
  refine (whole_canon (e := .f32) (n0 := 24) (n1 := 3584) _ p L).trans ?_
  subst hp
  funext y
  obtain ⟨r, k, rfl⟩ : ∃ (r : Fin 24) (k : Fin 3584), y = ix2 r k := ⟨y 0, y 1, eq_ix2 (n0 := 24) (n1 := 3584) y⟩
  rw [View.readCov_eq_canon', View.readCov_eq_canon', hL]
  refine stepOf_apply (19 - n) (by omega) _ (gramR U) (rowsR U n) G _ _ hG (fun r k => ?_) (fun k => ?_) r k
  · show lift (rowsR U n) _ = _
    rw [whole_idx]; rfl
  · show ((rowsR U n (19 - n + 1 * 0) ⟨0 + 1 * k.val, _⟩ : ℝ) : EReal) = _
    congr 2
    exact Fin.ext (by show 0 + 1 * k.val = k.val; omega)

end Cert.ProjectIdeal.Gen

end
-- ==== Proof.ProjRows.lean ====
/- The two small scratch arrays of `hra_project` after its preparation: the unit rows, and the rows that the nineteen
   steps leave. -/
module

public import proofs.«01_k».proof.Proof.ProjPrep
public import Idealize.ShloMosaic.PureOps.Ideal.Laws

@[expose] public section

set_option maxRecDepth 16384

noncomputable section

namespace Cert.ProjectIdeal.Gen

open Idealize.ShloMosaic Idealize.ShloMosaic.TcCoe Idealize.ShloMosaic.Tactic Idealize.ShloMosaic.ValueIdx
open Cert.Proj
open scoped BigOperators

variable (U : Fin 20 → Fin 3584 → ℝ)

/-- The normalised rows at an index. -/
theorem pay6_apply (x : Vec Ideal S20x3584 .f32) (hx : Normed x U) (r : Fin 20) (k : Fin 3584) :
    k0_pay6 (F := Ideal) x (ix2 r k) = ((unitR U r.val k : ℝ) : EReal) := by
  unfold k0_pay6
  dsimp only
  rw [shapeCast_self]
  have h1 : ∀ z : Vec Ideal S20x1 .f32, broadcastTo S20x3584 z broadcasts_S20x1_S20x3584 (ix2 r k) = z (ix2 r 0) := fun z => by
    refine broadcastTo_apply _ _ _ _ ?_
    intro a
    match a with
    | ⟨0, _⟩ => rfl
    | ⟨1, _⟩ => rfl
  have h2 : ∀ z : Vec Ideal S20 .f32, shapeCast S20x1 z shapeCasts_S20_S20x1 (ix2 r 0) = z (ix1 r) := fun z => by
    refine shapeCast_apply _ _ _ _ ?_
    simp [Shape.rowMajor_val_two, Shape.rowMajor_val_one]
  have h3 : multiReduction (F := Ideal) .add [1] S20 (mulf x x) 0x00000000#32 reduces_S20x3584_S20 (.inl rfl) rfl (ix1 r)
      = ∑ j, x (ix2 r j) * x (ix2 r j) := by
    refine (Ideal.multiReduction_add_single _ _ reduces_S20x3584_S20 _ _ _).trans ?_
    refine Finset.sum_congr rfl fun j _ => ?_
    have : reduces_S20x3584_S20.lift (ix1 r) j = ix2 r j := by
      funext d
      match d with
      | ⟨0, _⟩ => rfl
      | ⟨1, _⟩ => rfl
    rw [this]
    rfl
  show Ideal.div (x (ix2 r k)) (broadcastTo S20x3584 (sqrt (shapeCast S20x1 (multiReduction (F := Ideal) .add [1] S20 (mulf x x) 0x00000000#32 reduces_S20x3584_S20 (.inl rfl) rfl) shapeCasts_S20_S20x1)) broadcasts_S20x1_S20x3584 (ix2 r k)) = _
  rw [h1]
  show Ideal.div (x (ix2 r k)) (Ideal.sqrt (shapeCast S20x1 (multiReduction (F := Ideal) .add [1] S20 (mulf x x) 0x00000000#32 reduces_S20x3584_S20 (.inl rfl) rfl) shapeCasts_S20_S20x1 (ix2 r 0))) = _
  rw [h2, h3, hx]
  unfold unitR
  rw [dif_pos r.isLt]

/-- The inner products at an index. -/
theorem pay7_apply (v : Vec Ideal S24x3584 .f32) (hv : v = lift (unitR U)) (r s : Fin 24) :
    k0_pay7 (F := Ideal) v (ix2 r s) = ((gramR U r.val s.val : ℝ) : EReal) := by
  unfold k0_pay7
  show Ideal.matmul dot_S24x3584_S24x3584_S24x24_1_1_0_0_n_n v v (constant (F := Ideal) S24x24 .f32 0x00000000#32) (ix2 r s) = _
  unfold Ideal.matmul gramR
  rw [show (constant (F := Ideal) S24x24 .f32 0x00000000#32 : FVec Ideal S24x24 .f32) (ix2 r s) = 0 from by
    simp [constant_apply, Ideal.ofBits, Ideal.ieee], zero_add, coe_sum]
  rw [← Equiv.sum_comp (contrEquiv1 dot_S24x3584_S24x3584_S24x24_1_1_0_0_n_n 3584 rfl rfl).symm]
  refine Finset.sum_congr rfl fun k _ => ?_
  rw [EReal.coe_mul]
  subst hv
  rfl

section Chain

variable (c : Dev nD) (arg1 : Memref sig .tc .vmem S20x3584 .f32) (harg1 : arg1.IsWhole)
  (arg4 : Memref sig .tc .vmem S24x3584 .f32) (arg5 : Memref sig .tc .vmem S24x3584 .f32)
  (x0 : Vec Ideal S20x3584 .f32) (hx : Normed x0 U)

include hx in
/-- The first array: the unit rows, zero from row 20 on. -/
theorem canon_unit : View.canon (kernelRun0_A.sl.HS0_2 (F := Ideal) c arg1 harg1 x0) = lift (unitR U) := by
  funext y
  obtain ⟨r, k, rfl⟩ : ∃ (r : Fin 24) (k : Fin 3584), y = ix2 r k := ⟨y 0, y 1, eq_ix2 (n0 := 24) (n1 := 3584) y⟩
  unfold kernelRun0_A.sl.HS0_2
  by_cases hr : r.val < 20
  · have e : (ix2 r k : S24x3584.Idx) = (Rect.unit (s := S24x3584) ![0, 0] S20x3584.size inb_S24x3584_S20x3584_0_0).emb (ix2 ⟨r.val, hr⟩ k) := by
      funext d
      match d with
      | ⟨0, _⟩ => exact Fin.ext (by show r.val = 0 + 1 * r.val; omega)
      | ⟨1, _⟩ => exact Fin.ext (by show k.val = 0 + 1 * k.val; omega)
    rw [lift_ix2]
    conv_lhs => rw [e]
    refine (View.canon_cons_emb _ _ _ _).trans ?_
    refine pay6_apply U _ ?_ ⟨r.val, hr⟩ k
    have e0 : View.readAt (Elt Ideal) arg1.view (Rect.unit (s := S20x3584) ![0, 0] S20x3584.size inb_S20x3584_S20x3584_0_0).toLoadRect
        (harg1.unread x0) = x0 := by
      funext z
      rw [harg1.readAt_unread]
      exact congrArg x0 (whole_idx _ z)
    rw [e0]
    exact hx
  · refine (View.canon_cons_of_not_mem _ _ ?_).trans ?_
    · intro hm
      obtain ⟨x, hx⟩ := LoadRect.exists_idx_of_mem _ hm
      have h0 := congrArg Fin.val (congrFun hx 0)
      have h1 : 0 + 1 * (x 0).val = r.val := h0
      have h2 : (x 0).val < 20 := (x 0).isLt
      omega
    · refine (congrFun (whole_canon (e := .f32) (n0 := 24) (n1 := 3584) _ _ _) _).trans ?_
      rw [lift_ix2]
      unfold k0_pay5 unitR
      rw [shapeCast_self, dif_neg hr]
      exact zero_f32

include hx in
theorem load_unit : kernelRun0_A.sl.v113 (F := Ideal) c arg1 harg1 arg4 x0 = lift (unitR U) := by
  unfold kernelRun0_A.sl.v113
  rw [View.readCov_eq_canon', canon_unit U c arg1 harg1 x0 hx]
  funext y
  exact congrArg (lift (unitR U)) (whole_idx _ y)

include hx in
/-- The second array before the steps: twice the unit rows. -/
theorem canon_start : View.canon (kernelRun0_A.sl.HS1_1 (F := Ideal) c arg1 harg1 arg4 x0) = lift (rowsR U 0) := by
  unfold kernelRun0_A.sl.HS1_1
  refine (whole_canon (e := .f32) (n0 := 24) (n1 := 3584) _ _ _).trans ?_
  rw [load_unit U c arg1 harg1 arg4 x0 hx]
  unfold k0_pay8
  dsimp only
  rw [shapeCast_self]
  funext y
  show Ideal.ofBits .f32 0x40000000#32 * lift (unitR U) y = _
  rw [two_f32]
  show ((2 : ℝ) : EReal) * ((unitR U (y 0).val (y 1) : ℝ) : EReal) = ((2 * unitR U (y 0).val (y 1) : ℝ) : EReal)
  rw [EReal.coe_mul]

include hx in
/-- The inner products that the steps read. -/
theorem gram_apply (r s : Fin 24) : k0_pay7 (F := Ideal) (kernelRun0_A.sl.v113 (F := Ideal) c arg1 harg1 arg4 x0) (ix2 r s)
    = ((gramR U r.val s.val : ℝ) : EReal) :=
  pay7_apply U _ (load_unit U c arg1 harg1 arg4 x0 hx) r s

include hx in
/-- The second array after the nineteen steps. -/
theorem canon_rows : View.canon (kernelRun0_A.sl.HS1_20 (F := Ideal) c arg1 harg1 arg4 arg5 x0) = lift (rowsR U 19) := by
  have hG := gram_apply U c arg1 harg1 arg4 x0 hx
  have a1 := canon_start U c arg1 harg1 arg4 x0 hx
  have a2 : View.canon (kernelRun0_A.sl.HS1_2 (F := Ideal) c arg1 harg1 arg4 arg5 x0) = _ := canon_step U 0 (by decide) arg5 _ hG _ a1 _ rfl
  have a3 : View.canon (kernelRun0_A.sl.HS1_3 (F := Ideal) c arg1 harg1 arg4 arg5 x0) = _ := canon_step U 1 (by decide) arg5 _ hG _ a2 _ rfl
  have a4 : View.canon (kernelRun0_A.sl.HS1_4 (F := Ideal) c arg1 harg1 arg4 arg5 x0) = _ := canon_step U 2 (by decide) arg5 _ hG _ a3 _ rfl
  have a5 : View.canon (kernelRun0_A.sl.HS1_5 (F := Ideal) c arg1 harg1 arg4 arg5 x0) = _ := canon_step U 3 (by decide) arg5 _ hG _ a4 _ rfl
  have a6 : View.canon (kernelRun0_A.sl.HS1_6 (F := Ideal) c arg1 harg1 arg4 arg5 x0) = _ := canon_step U 4 (by decide) arg5 _ hG _ a5 _ rfl
  have a7 : View.canon (kernelRun0_A.sl.HS1_7 (F := Ideal) c arg1 harg1 arg4 arg5 x0) = _ := canon_step U 5 (by decide) arg5 _ hG _ a6 _ rfl
  have a8 : View.canon (kernelRun0_A.sl.HS1_8 (F := Ideal) c arg1 harg1 arg4 arg5 x0) = _ := canon_step U 6 (by decide) arg5 _ hG _ a7 _ rfl
  have a9 : View.canon (kernelRun0_A.sl.HS1_9 (F := Ideal) c arg1 harg1 arg4 arg5 x0) = _ := canon_step U 7 (by decide) arg5 _ hG _ a8 _ rfl
  have a10 : View.canon (kernelRun0_A.sl.HS1_10 (F := Ideal) c arg1 harg1 arg4 arg5 x0) = _ := canon_step U 8 (by decide) arg5 _ hG _ a9 _ rfl
  have a11 : View.canon (kernelRun0_A.sl.HS1_11 (F := Ideal) c arg1 harg1 arg4 arg5 x0) = _ := canon_step U 9 (by decide) arg5 _ hG _ a10 _ rfl
  have a12 : View.canon (kernelRun0_A.sl.HS1_12 (F := Ideal) c arg1 harg1 arg4 arg5 x0) = _ := canon_step U 10 (by decide) arg5 _ hG _ a11 _ rfl
  have a13 : View.canon (kernelRun0_A.sl.HS1_13 (F := Ideal) c arg1 harg1 arg4 arg5 x0) = _ := canon_step U 11 (by decide) arg5 _ hG _ a12 _ rfl
  have a14 : View.canon (kernelRun0_A.sl.HS1_14 (F := Ideal) c arg1 harg1 arg4 arg5 x0) = _ := canon_step U 12 (by decide) arg5 _ hG _ a13 _ rfl
  have a15 : View.canon (kernelRun0_A.sl.HS1_15 (F := Ideal) c arg1 harg1 arg4 arg5 x0) = _ := canon_step U 13 (by decide) arg5 _ hG _ a14 _ rfl
  have a16 : View.canon (kernelRun0_A.sl.HS1_16 (F := Ideal) c arg1 harg1 arg4 arg5 x0) = _ := canon_step U 14 (by decide) arg5 _ hG _ a15 _ rfl
  have a17 : View.canon (kernelRun0_A.sl.HS1_17 (F := Ideal) c arg1 harg1 arg4 arg5 x0) = _ := canon_step U 15 (by decide) arg5 _ hG _ a16 _ rfl
  have a18 : View.canon (kernelRun0_A.sl.HS1_18 (F := Ideal) c arg1 harg1 arg4 arg5 x0) = _ := canon_step U 16 (by decide) arg5 _ hG _ a17 _ rfl
  have a19 : View.canon (kernelRun0_A.sl.HS1_19 (F := Ideal) c arg1 harg1 arg4 arg5 x0) = _ := canon_step U 17 (by decide) arg5 _ hG _ a18 _ rfl
  exact canon_step U 18 (by decide) arg5 _ hG _ a19 _ rfl

end Chain

end Cert.ProjectIdeal.Gen

end
-- ==== Proof.ProjStack.lean ====
/- The two large scratch arrays of `hra_project`: 256 rows, ten slots of 24 rows and 16 rows of zeros.

   The kernel splits each array of rows into three parts of lower and lower order, and lays them out slot by slot, so
   that one product sums the products of all pairs of parts that matter. Over the real numbers the first part is the
   whole and the other two are zero. `canon_uc` and `canon_ar` say what the 14 stores of each array leave: the rows in
   the slots that hold the first part, zero in the others. -/
module

public import proofs.«01_k».proof.Proof.ProjRows

@[expose] public section

set_option maxRecDepth 16384

noncomputable section

namespace Cert.ProjectIdeal.Gen

open Idealize.ShloMosaic Idealize.ShloMosaic.TcCoe Idealize.ShloMosaic.Tactic Idealize.ShloMosaic.ValueIdx
open Cert.Proj
open scoped BigOperators

section Chain

variable {F : FTy → Type} [FloatOps F]

/-- The first part of a split. -/
def hiOf (v : FVec F S24x256 .f32) : FVec F S24x256 .f32 := extf .f32 (truncf .bf16 v bitsLt_bf16_f32) bitsLt_bf16_f32
/-- What the first part leaves. -/
def restOf (v : FVec F S24x256 .f32) : FVec F S24x256 .f32 := subf v (hiOf v)
/-- The second part. -/
def midOf (v : FVec F S24x256 .f32) : FVec F S24x256 .f32 := hiOf (restOf v)
/-- The third part. -/
def loOf (v : FVec F S24x256 .f32) : FVec F S24x256 .f32 := subf (restOf v) (midOf v)

/-- Ten slots and the zero rows, one below the other. -/
def stack (f : Fin 10 → FVec F S24x256 .f32) : FVec F S256x256 .bf16 :=
  shapeCast S256x256 (truncf .bf16
    (concatenate S256x256 0 [⟨S24x256, f 0⟩, ⟨S24x256, f 1⟩, ⟨S24x256, f 2⟩, ⟨S24x256, f 3⟩, ⟨S24x256, f 4⟩, ⟨S24x256, f 5⟩,
        ⟨S24x256, f 6⟩, ⟨S24x256, f 7⟩, ⟨S24x256, f 8⟩, ⟨S24x256, f 9⟩, ⟨S16x256, broadcast S16x256 (Scalar.ofBits .f32 0x00000000#32)⟩]
      concatenates_S24x256_S24x256_S24x256_S24x256_S24x256_S24x256_S24x256_S24x256_S24x256_S24x256_S16x256_S256x256_d0)
    bitsLt_bf16_f32) shapeCasts_S256x256_S256x256

/-- The slots of the unit rows. -/
def stackU (v : FVec F S24x256 .f32) : FVec F S256x256 .bf16 :=
  stack ![hiOf v, hiOf v, hiOf v, hiOf v, hiOf v, hiOf v, midOf v, midOf v, midOf v, loOf v]
/-- The slots of the second rows. -/
def stackA (v : FVec F S24x256 .f32) : FVec F S256x256 .bf16 :=
  stack ![hiOf v, midOf v, loOf v, hiOf v, midOf v, hiOf v, hiOf v, midOf v, hiOf v, hiOf v]

theorem inbTall (g : Nat) (hg : g < 14) (a : Fin S256x3584.rank) :
    (![0, 256 * g] : Fin 2 → Nat) a + S256x256.size a ≤ S256x3584.size a := by
  match a with
  | ⟨0, _⟩ => show 0 + 256 ≤ 256; omega
  | ⟨1, _⟩ => show 256 * g + 256 ≤ 3584; omega

theorem inbShort (g : Nat) (hg : g < 14) (a : Fin S24x3584.rank) :
    (![0, 256 * g] : Fin 2 → Nat) a + S24x256.size a ≤ S24x3584.size a := by
  match a with
  | ⟨0, _⟩ => show 0 + 24 ≤ 24; omega
  | ⟨1, _⟩ => show 256 * g + 256 ≤ 3584; omega

/-- The store of columns `256 g` to `256 g + 255`, made by `P` from those columns of a small array. -/
def colAt (P : FVec F S24x256 .f32 → FVec F S256x256 .bf16) (arg : Memref sig .tc .vmem S24x3584 .f32)
    (L : List (View.Piece (Elt F) S24x3584 .f32)) (g : Nat) (hg : g < 14) : View.Piece (Elt F) S256x3584 .bf16 :=
  ⟨Rect.unit (s := S256x3584) ![0, 256 * g] S256x256.size (inbTall g hg),
    P (arg.view.readCov L (Rect.unit (s := S24x3584) ![0, 256 * g] S24x256.size (inbShort g hg)).toLoadRect)⟩

/-- The stores of the first `n` column blocks, the last one first. -/
def cols (P : FVec F S24x256 .f32 → FVec F S256x256 .bf16) (arg : Memref sig .tc .vmem S24x3584 .f32)
    (L : List (View.Piece (Elt F) S24x3584 .f32)) : (n : Nat) → n ≤ 14 → List (View.Piece (Elt F) S256x3584 .bf16)
  | 0, _ => []
  | n + 1, h => colAt P arg L n h :: cols P arg L n (Nat.le_of_succ_le h)

variable (c : Dev nD) (arg1 : Memref sig .tc .vmem S20x3584 .f32) (harg1 : arg1.IsWhole)
  (arg4 : Memref sig .tc .vmem S24x3584 .f32) (arg5 : Memref sig .tc .vmem S24x3584 .f32) (x0 : Vec F S20x3584 .f32)

theorem uc_pieces : kernelRun0_A.sl.HS2_14 c arg1 harg1 arg4 x0
    = cols stackU arg4 (kernelRun0_A.sl.HS0_2 c arg1 harg1 x0) 14 (Nat.le_refl 14) := rfl

theorem ar_pieces : kernelRun0_A.sl.HS3_14 c arg1 harg1 arg4 arg5 x0
    = cols stackA arg5 (kernelRun0_A.sl.HS1_20 c arg1 harg1 arg4 arg5 x0) 14 (Nat.le_refl 14) := rfl

end Chain

/-- The stacked slots at an index: row `24 q + r` is row `r` of slot `q`. -/
theorem stack_apply (f : Fin 10 → FVec Ideal S24x256 .f32) (q : Fin 10) (r : Fin 24) (k : Fin 256) :
    stack (F := Ideal) f (ix2 ⟨24 * q.val + r.val, by omega⟩ k) = f q (ix2 r k) := by
  unfold stack
  rw [shapeCast_self, truncf_apply]
  refine concatenate_apply_piece (t := S256x256) 0 _ _ _ q.val (by simp; omega) S24x256 (f q) ?_ rfl (24 * q.val) ?_ (ix2 r k) ?_ ?_
  · fin_cases q <;> rfl
  · fin_cases q <;> rfl
  · intro b hb
    match b with
    | ⟨0, _⟩ => exact absurd rfl hb
    | ⟨1, _⟩ => rfl
  · rfl

/-- Below the slots are zeros. -/
theorem stack_pad (f : Fin 10 → FVec Ideal S24x256 .f32) (r : Fin 16) (k : Fin 256) :
    stack (F := Ideal) f (ix2 ⟨240 + r.val, by omega⟩ k) = ((0 : ℝ) : EReal) := by
  unfold stack
  rw [shapeCast_self, truncf_apply]
  refine (concatenate_apply_piece (t := S256x256) 0 _ _ _ 10 (by simp) S16x256
    (broadcast S16x256 (Scalar.ofBits .f32 0x00000000#32)) rfl rfl 240 rfl (ix2 r k) ?_ rfl).trans ?_
  · intro b hb
    match b with
    | ⟨0, _⟩ => exact absurd rfl hb
    | ⟨1, _⟩ => rfl
  · exact zero_f32

/-- Rows spread over slots: row `R` is row `R % 24` of `f` if `S` has the slot `R / 24`, else zero. -/
def spread {C : ℕ} (S : ℕ → Bool) (f : ℕ → Fin C → ℝ) (R : ℕ) (k : Fin C) : ℝ := if S (R / 24) then f (R % 24) k else 0

/-- The slots with the first part of the unit rows. -/
def inU (q : ℕ) : Bool := decide (q < 6)
/-- The slots with the first part of the second rows. -/
def inA (q : ℕ) : Bool := decide (q = 0 ∨ q = 3 ∨ q = 5 ∨ q = 6 ∨ q = 8 ∨ q = 9)

section Parts

variable (f : ℕ → Fin 256 → ℝ) (v : FVec Ideal S24x256 .f32) (hv : v = lift f)

include hv in
theorem hi_apply (r : Fin 24) (k : Fin 256) : hiOf (F := Ideal) v (ix2 r k) = ((f r.val k : ℝ) : EReal) := by subst hv; rfl

include hv in
theorem rest_apply (r : Fin 24) (k : Fin 256) : restOf (F := Ideal) v (ix2 r k) = ((0 : ℝ) : EReal) := by
  unfold restOf
  rw [subf_apply, hi_apply f v hv, hv, lift_ix2, ← EReal.coe_sub, sub_self]

include hv in
theorem mid_apply (r : Fin 24) (k : Fin 256) : midOf (F := Ideal) v (ix2 r k) = ((0 : ℝ) : EReal) := rest_apply f v hv r k

include hv in
theorem lo_apply (r : Fin 24) (k : Fin 256) : loOf (F := Ideal) v (ix2 r k) = ((0 : ℝ) : EReal) := by
  unfold loOf
  rw [subf_apply, rest_apply f v hv, mid_apply f v hv, ← EReal.coe_sub, sub_self]

/-- Slots that are the first part or zero, stacked, are the rows spread over the slots. -/
theorem stack_lift (S : ℕ → Bool) (h10 : S 10 = false) (P : Fin 10 → FVec Ideal S24x256 .f32)
    (hP : ∀ (q : Fin 10) (r : Fin 24) (k : Fin 256), P q (ix2 r k) = (((if S q.val then f r.val k else 0) : ℝ) : EReal)) :
    stack (F := Ideal) P = lift (spread S f) := by
  funext y
  obtain ⟨R, k, rfl⟩ : ∃ (R k : Fin 256), y = ix2 R k := ⟨y 0, y 1, eq_ix2 (n0 := 256) (n1 := 256) y⟩
  rw [lift_ix2]
  unfold spread
  by_cases hR : R.val < 240
  · have := (stack_apply P ⟨R.val / 24, by omega⟩ ⟨R.val % 24, by omega⟩ k).trans (hP _ _ _)
    rwa [show (⟨24 * (R.val / 24) + R.val % 24, by omega⟩ : Fin 256) = R from Fin.ext (by dsimp only; omega)] at this
  · have := stack_pad P ⟨R.val - 240, by omega⟩ k
    rw [show (⟨240 + (R.val - 240), by omega⟩ : Fin 256) = R from Fin.ext (by dsimp only; omega)] at this
    rw [this, show R.val / 24 = 10 from by omega, h10]
    rfl

include hv in
theorem stackU_lift : stackU (F := Ideal) v = lift (spread inU f) := by
  refine stack_lift f inU rfl _ fun q r k => ?_
  have h := hi_apply f v hv r k
  have m := mid_apply f v hv r k
  have l := lo_apply f v hv r k
  fin_cases q <;> first | exact h | exact m | exact l

include hv in
theorem stackA_lift : stackA (F := Ideal) v = lift (spread inA f) := by
  refine stack_lift f inA rfl _ fun q r k => ?_
  have h := hi_apply f v hv r k
  have m := mid_apply f v hv r k
  have l := lo_apply f v hv r k
  fin_cases q <;> first | exact h | exact m | exact l

end Parts

section Cols

variable (P : FVec Ideal S24x256 .f32 → FVec Ideal S256x256 .bf16) (S : ℕ → Bool)
  (hP : ∀ (f : ℕ → Fin 256 → ℝ) (v : FVec Ideal S24x256 .f32), v = lift f → P v = lift (spread S f))
  (arg : Memref sig .tc .vmem S24x3584 .f32) (L : List (View.Piece (Elt Ideal) S24x3584 .f32))
  (f : ℕ → Fin 3584 → ℝ) (hL : View.canon L = lift f)

include hP hL in
/-- One store writes the spread rows at its place. -/
theorem colAt_apply (g : Nat) (hg : g < 14) (x : (colAt P arg L g hg).1.shape.Idx) :
    (colAt P arg L g hg).2 x = lift (spread S f) ((colAt P arg L g hg).1.emb x) := by
  have hv : arg.view.readCov L (Rect.unit (s := S24x3584) ![0, 256 * g] S24x256.size (inbShort g hg)).toLoadRect
      = lift (fun r (k : Fin 256) => f r ⟨256 * g + k.val, by omega⟩) := by
    rw [View.readCov_eq_canon', hL]
    funext y
    obtain ⟨r, k, rfl⟩ : ∃ (r : Fin 24) (k : Fin 256), y = ix2 r k := ⟨y 0, y 1, eq_ix2 (n0 := 24) (n1 := 256) y⟩
    show ((f (0 + 1 * r.val) ⟨256 * g + 1 * k.val, _⟩ : ℝ) : EReal) = ((f r.val ⟨256 * g + k.val, _⟩ : ℝ) : EReal)
    congr 2
    · omega
    · exact Fin.ext (by show 256 * g + 1 * k.val = 256 * g + k.val; omega)
  obtain ⟨R, k, rfl⟩ : ∃ (R k : Fin 256), x = ix2 R k := ⟨x 0, x 1, eq_ix2 (n0 := 256) (n1 := 256) x⟩
  refine (congrFun (hP _ _ hv) (ix2 R k)).trans ?_
  show ((spread S (fun r (k : Fin 256) => f r ⟨256 * g + k.val, _⟩) R.val k : ℝ) : EReal)
    = ((spread S f (0 + 1 * R.val) ⟨256 * g + 1 * k.val, _⟩ : ℝ) : EReal)
  unfold spread
  have e : 0 + 1 * R.val = R.val := by omega
  have e' : (⟨256 * g + 1 * k.val, by omega⟩ : Fin 3584) = ⟨256 * g + k.val, by omega⟩ := Fin.ext (by dsimp only; omega)
  rw [e, e']

include hP hL in
/-- So do all of them. -/
theorem cols_apply : ∀ (n : Nat) (h : n ≤ 14), ∀ pc ∈ cols P arg L n h, ∀ x : pc.1.shape.Idx,
    pc.2 x = lift (spread S f) (pc.1.emb x)
  | 0, _, pc, hpc, x => by simp [cols] at hpc
  | n + 1, h, pc, hpc, x => by
    unfold cols at hpc
    rcases List.mem_cons.mp hpc with rfl | hpc
    · exact colAt_apply P S hP arg L f hL n h x
    · exact cols_apply n _ pc hpc x

end Cols

section Canon

variable (U : Fin 20 → Fin 3584 → ℝ)
  (c : Dev nD) (i : grid0.Coords) (arg1 : Memref sig .tc .vmem S20x3584 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S24x3584 .f32) (harg4 : arg4.IsWhole) (arg5 : Memref sig .tc .vmem S24x3584 .f32) (harg5 : arg5.IsWhole) (arg6 : Memref sig .tc .vmem S256x3584 .bf16) (harg6 : arg6.IsWhole) (arg7 : Memref sig .tc .vmem S256x3584 .bf16) (harg7 : arg7.IsWhole) (hc0 : cond0_0 i)
  (x0 : Vec Ideal S20x3584 .f32) (x1 : Vec Ideal S512x3584 .bf16) (hx : Normed x0 U)

include hx in
/-- The unit rows, spread over their slots. -/
theorem canon_uc : View.canon (kernelRun0_A (F := Ideal) c i arg1 harg1 arg2 harg2 arg3 harg3 arg4 harg4 arg5 harg5 arg6 harg6 arg7 harg7 hc0 x0 x1).2.1
    = lift (spread inU (unitR U)) := by
  funext y
  refine View.canon_apply_of_pieces (lift (spread inU (unitR U))) _ ?_ y
    (scover0_A_2 c i arg1 harg1 arg2 harg2 arg3 harg3 arg4 harg4 arg5 harg5 arg6 harg6 arg7 harg7 hc0 x0 x1 y)
  have e : (kernelRun0_A (F := Ideal) c i arg1 harg1 arg2 harg2 arg3 harg3 arg4 harg4 arg5 harg5 arg6 harg6 arg7 harg7 hc0 x0 x1).2.1
      = kernelRun0_A.sl.HS2_14 c arg1 harg1 arg4 x0 := rfl
  rw [e, uc_pieces]
  exact cols_apply stackU inU (fun f v hv => stackU_lift f v hv) arg4 _ (unitR U) (canon_unit U c arg1 harg1 x0 hx) 14 _

include hx in
/-- The second rows, spread over theirs. -/
theorem canon_ar : View.canon (kernelRun0_A (F := Ideal) c i arg1 harg1 arg2 harg2 arg3 harg3 arg4 harg4 arg5 harg5 arg6 harg6 arg7 harg7 hc0 x0 x1).2.2.1
    = lift (spread inA (rowsR U 19)) := by
  funext y
  refine View.canon_apply_of_pieces (lift (spread inA (rowsR U 19))) _ ?_ y
    (scover0_A_3 c i arg1 harg1 arg2 harg2 arg3 harg3 arg4 harg4 arg5 harg5 arg6 harg6 arg7 harg7 hc0 x0 x1 y)
  have e : (kernelRun0_A (F := Ideal) c i arg1 harg1 arg2 harg2 arg3 harg3 arg4 harg4 arg5 harg5 arg6 harg6 arg7 harg7 hc0 x0 x1).2.2.1
      = kernelRun0_A.sl.HS3_14 c arg1 harg1 arg4 arg5 x0 := rfl
  rw [e, ar_pieces]
  exact cols_apply stackA inA (fun f v hv => stackA_lift f v hv) arg5 _ (rowsR U 19) (canon_rows U c arg1 harg1 arg4 arg5 x0 hx) 14 _

end Canon

end Cert.ProjectIdeal.Gen

end
-- ==== Proof.ProjBlock.lean ====
/- One grid point of `hra_project`: what it leaves in the output block.

   The block of rows of `x` is multiplied with the spread unit rows, the product is split into parts that are chosen
   by the slot of the column, and the product of the parts with the spread second rows is subtracted from the block.
   Over the real numbers only the columns of slot 0 contribute (`pad_sum`): the block is `x - (x·uhᵀ)·a`, where `uh`
   are the 20 unit rows and `a` the 20 second rows. -/
module

public import proofs.«01_k».proof.Proof.ProjStack

@[expose] public section

set_option maxRecDepth 16384

noncomputable section

namespace Cert.ProjectIdeal.Gen

open Idealize.ShloMosaic Idealize.ShloMosaic.TcCoe Idealize.ShloMosaic.Tactic Idealize.ShloMosaic.ValueIdx
open Cert.Proj
open scoped BigOperators

/-- The slots of columns that hold a lower part of the product. -/
def lowSlot (q : ℕ) : Bool := decide (q = 3 ∨ q = 4 ∨ q = 5 ∨ q = 8)

/-- The part of the product that column `R` of row `m` holds. -/
def partR (X : ℕ → Fin 3584 → ℝ) (f : ℕ → Fin 3584 → ℝ) (m R : ℕ) : ℝ :=
  if lowSlot (R / 24) then 0 else ∑ k, X m k * spread inU f R k

/-- One element of the output block. -/
def outR (X f g : ℕ → Fin 3584 → ℝ) (m : ℕ) (d : Fin 3584) : ℝ :=
  X m d - ∑ R : Fin 256, partR X f m R.val * spread inA g R.val d

/-- Only slot 0 contributes. -/
theorem pad_sum (X f g : ℕ → Fin 3584 → ℝ) (hf : ∀ r, 20 ≤ r → ∀ k, f r k = 0) (m : ℕ) (d : Fin 3584) :
    outR X f g m d = X m d - ∑ r ∈ Finset.range 20, (∑ k, X m k * f r k) * g r d := by
  unfold outR
  rw [Fin.sum_univ_eq_sum_range (fun R => partR X f m R * spread inA g R d) 256]
  congr 1
  rw [← Finset.sum_subset (s₁ := Finset.range 20) (Finset.range_subset_range.mpr (by omega : 20 ≤ 256))]
  · refine Finset.sum_congr rfl fun r hr => ?_
    have h : r < 20 := Finset.mem_range.mp hr
    unfold partR spread
    rw [show r / 24 = 0 from by omega, show r % 24 = r from by omega]
    simp [lowSlot, inU, inA]
  · intro R hR hR'
    have h1 : R < 256 := Finset.mem_range.mp hR
    have h2 : 20 ≤ R := by simpa using hR'
    have hq : R / 24 = 0 ∨ lowSlot (R / 24) = true ∨ inA (R / 24) = false ∨ inU (R / 24) = false := by
      have : R / 24 < 11 := by omega
      exact (by decide : ∀ q : Fin 11, q.val = 0 ∨ lowSlot q.val = true ∨ inA q.val = false ∨ inU q.val = false) ⟨R / 24, this⟩
    have hz : (∀ k, spread inU f R k = 0) → partR X f m R = 0 := by
      intro h
      unfold partR
      simp [h]
    rcases hq with h | h | h | h
    · have : ∀ k, spread inU f R k = 0 := by
        intro k
        unfold spread
        rw [hf (R % 24) (by omega) k, ite_self]
      rw [hz this, zero_mul]
    · unfold partR
      rw [if_pos h, zero_mul]
    · unfold spread
      rw [h]
      simp
    · rw [hz (by intro k; unfold spread; rw [h]; simp), zero_mul]

section Chain

variable {F : FTy → Type} [FloatOps F]

/-- The parts of the product of a block of rows with the spread unit rows. -/
def partsOf (x : Vec F S512x3584 .bf16) (uc : Vec F S256x3584 .bf16) : FVec F S512x256 .bf16 :=
  k0_pay113 (k0_pay106 x uc) (k0_pay108 x uc) (k0_pay109 x uc) k0_pay110 k0_pay111 k0_pay112 8#32

/-- Columns of the block minus the product of the parts with columns of the second rows. -/
def minusOf (pt : FVec F S512x256 .bf16) (x : Vec F S512x512 .bf16) (a : Vec F S256x512 .bf16) : FVec F S512x512 .bf16 :=
  truncf .bf16 (subf (extf .f32 x bitsLt_bf16_f32)
    (matmul dot_S512x256_S256x512_S512x512_1_0_0_1_n_n none pt a (constant S512x512 .f32 0x00000000#32))) bitsLt_bf16_f32

theorem inbX (g : Nat) (hg : g < 7) (a : Fin S512x3584.rank) :
    (![0, 512 * g] : Fin 2 → Nat) a + S512x512.size a ≤ S512x3584.size a := by
  match a with
  | ⟨0, _⟩ => show 0 + 512 ≤ 512; omega
  | ⟨1, _⟩ => show 512 * g + 512 ≤ 3584; omega

theorem inbR (g : Nat) (hg : g < 7) (a : Fin S256x3584.rank) :
    (![0, 512 * g] : Fin 2 → Nat) a + S256x512.size a ≤ S256x3584.size a := by
  match a with
  | ⟨0, _⟩ => show 0 + 256 ≤ 256; omega
  | ⟨1, _⟩ => show 512 * g + 512 ≤ 3584; omega

variable (pt : FVec F S512x256 .bf16) (arg2 : Memref sig .tc .vmem S512x3584 .bf16) (harg2 : arg2.IsWhole)
  (x1 : Vec F S512x3584 .bf16) (av : (g : ℕ) → g < 7 → Vec F S256x512 .bf16)

/-- The store of columns `512 g` to `512 g + 511` of the output block. -/
def outAt (g : Nat) (hg : g < 7) : View.Piece (Elt F) S512x3584 .bf16 :=
  ⟨Rect.unit (s := S512x3584) ![0, 512 * g] S512x512.size (inbX g hg),
    minusOf pt (View.readAt (Elt F) arg2.view (Rect.unit (s := S512x3584) ![0, 512 * g] S512x512.size (inbX g hg)).toLoadRect
      (harg2.unread x1)) (av g hg)⟩

/-- The stores of the first `n` column blocks, the last one first. -/
def outs : (n : ℕ) → n ≤ 7 → List (View.Piece (Elt F) S512x3584 .bf16)
  | 0, _ => []
  | n + 1, h => outAt pt arg2 harg2 x1 av n h :: outs n (Nat.le_of_succ_le h)

end Chain

/-- The slot of each column, as a word. -/
theorem slot_apply (m : Fin 512) (R : Fin 256) : k0_pay110 (ix2 m R) = BitVec.ofNat 32 (R.val / 24) := by
  have h : ∀ R : Fin 256, (let w := BitVec.ofNat 32 R.val
      (Scalar.select (IntOp.andi (IntOp.cmpi .ne (IntOp.subi ((IntOp.cmpi .sgt w 0#32).setWidth 32) ((IntOp.cmpi .slt w 0#32).setWidth 32))
        (Scalar.subi (Scalar.extui (Scalar.cmpi .sgt 24#32 0#32)) (Scalar.extui (Scalar.cmpi .slt 24#32 0#32))))
        (IntOp.cmpi .ne (IntOp.remsi .vector w 24#32) 0#32)) (IntOp.subi (IntOp.divsi .vector w 24#32) 1#32) (IntOp.divsi .vector w 24#32)))
      = BitVec.ofNat 32 (R.val / 24) := by decide +kernel
  rw [← h R]
  have e : iota .tc S512x256 32 [1] iota_S512x256_d1_w32 (ix2 m R) = BitVec.ofNat 32 R.val := iota_single_apply _ _ _ _ _ _
  unfold k0_pay110
  dsimp only
  rw [← e]
  rfl

section Parts

variable (X f : ℕ → Fin 3584 → ℝ) (x : Vec Ideal S512x3584 .bf16) (uc : Vec Ideal S256x3584 .bf16)
  (hx : x = lift X) (hu : uc = lift (spread inU f))

include hx hu in
/-- The product of the block with the spread unit rows. -/
theorem prod_apply (m : Fin 512) (R : Fin 256) :
    k0_pay105 (F := Ideal) x uc (ix2 m R) = ((∑ k, X m.val k * spread inU f R.val k : ℝ) : EReal) := by
  unfold k0_pay105
  show Ideal.matmul dot_S512x3584_S256x3584_S512x256_1_1_0_0_n_n x uc (constant (F := Ideal) S512x256 .f32 0x00000000#32) (ix2 m R) = _
  unfold Ideal.matmul
  rw [show (constant (F := Ideal) S512x256 .f32 0x00000000#32 : FVec Ideal S512x256 .f32) (ix2 m R) = 0 from by
    simp [constant_apply, Ideal.ofBits, Ideal.ieee], zero_add]
  rw [← Equiv.sum_comp (contrEquiv1 dot_S512x3584_S256x3584_S512x256_1_1_0_0_n_n 3584 rfl rfl).symm, coe_sum]
  refine Finset.sum_congr rfl fun k _ => ?_
  rw [EReal.coe_mul, hx, hu]
  rfl

include hx hu in
theorem phi_apply (m : Fin 512) (R : Fin 256) :
    k0_pay106 (F := Ideal) x uc (ix2 m R) = ((∑ k, X m.val k * spread inU f R.val k : ℝ) : EReal) :=
  prod_apply X f x uc hx hu m R

include hx hu in
theorem prest_apply (m : Fin 512) (R : Fin 256) : k0_pay107 (F := Ideal) x uc (ix2 m R) = ((0 : ℝ) : EReal) := by
  unfold k0_pay107
  rw [subf_apply, prod_apply X f x uc hx hu, phi_apply X f x uc hx hu, ← EReal.coe_sub, sub_self]

include hx hu in
theorem pmid_apply (m : Fin 512) (R : Fin 256) : k0_pay108 (F := Ideal) x uc (ix2 m R) = ((0 : ℝ) : EReal) :=
  prest_apply X f x uc hx hu m R

include hx hu in
theorem plo_apply (m : Fin 512) (R : Fin 256) : k0_pay109 (F := Ideal) x uc (ix2 m R) = ((0 : ℝ) : EReal) := by
  unfold k0_pay109
  rw [subf_apply, prest_apply X f x uc hx hu, pmid_apply X f x uc hx hu, ← EReal.coe_sub, sub_self]

theorem is5 : ∀ R : Fin 256, IntOp.cmpi .eq (BitVec.ofNat 32 (R.val / 24)) 5#32 = if R.val / 24 = 5 then 1#1 else 0#1 := by
  decide +kernel

theorem is348 : ∀ R : Fin 256, IntOp.ori (IntOp.ori (IntOp.cmpi .eq (BitVec.ofNat 32 (R.val / 24)) 3#32)
      (IntOp.cmpi .eq (BitVec.ofNat 32 (R.val / 24)) 4#32)) (IntOp.cmpi .eq (BitVec.ofNat 32 (R.val / 24)) 8#32)
    = if R.val / 24 = 3 ∨ R.val / 24 = 4 ∨ R.val / 24 = 8 then 1#1 else 0#1 := by
  decide +kernel

include hx hu in
/-- The parts at an index. -/
theorem parts_apply (m : Fin 512) (R : Fin 256) :
    partsOf (F := Ideal) x uc (ix2 m R) = ((partR X f m.val R.val : ℝ) : EReal) := by
  have hh := phi_apply X f x uc hx hu m R
  have hm := pmid_apply X f x uc hx hu m R
  have hl := plo_apply X f x uc hx hu m R
  have e : partsOf (F := Ideal) x uc (ix2 m R)
      = Scalar.select (IntOp.cmpi .eq (k0_pay110 (ix2 m R)) 5#32) (k0_pay109 (F := Ideal) x uc (ix2 m R))
        (Scalar.select (IntOp.ori (IntOp.ori (IntOp.cmpi .eq (k0_pay110 (ix2 m R)) 3#32)
          (IntOp.cmpi .eq (k0_pay110 (ix2 m R)) 4#32)) (IntOp.cmpi .eq (k0_pay110 (ix2 m R)) 8#32))
          (k0_pay108 (F := Ideal) x uc (ix2 m R)) (k0_pay106 (F := Ideal) x uc (ix2 m R))) := rfl
  rw [e, hh, hm, hl, slot_apply, is5, is348]
  unfold partR
  by_cases h5 : R.val / 24 = 5
  · simp [h5, lowSlot, Scalar.select]
  · by_cases h3 : R.val / 24 = 3 ∨ R.val / 24 = 4 ∨ R.val / 24 = 8
    · have : lowSlot (R.val / 24) = true := by unfold lowSlot; simp; omega
      rw [if_pos h3, if_neg h5, if_pos this]
      rfl
    · have : ¬lowSlot (R.val / 24) = true := by unfold lowSlot; simp; omega
      rw [if_neg h3, if_neg h5, if_neg this]
      rfl

end Parts

section Out

variable (X f g : ℕ → Fin 3584 → ℝ) (pt : FVec Ideal S512x256 .bf16)
  (hpt : ∀ (m : Fin 512) (R : Fin 256), pt (ix2 m R) = ((partR X f m.val R.val : ℝ) : EReal))
  (arg2 : Memref sig .tc .vmem S512x3584 .bf16) (harg2 : arg2.IsWhole)
  (x1 : Vec Ideal S512x3584 .bf16) (hx : x1 = lift X)
  (av : (n : ℕ) → n < 7 → Vec Ideal S256x512 .bf16)
  (hav : ∀ (n : ℕ) (hn : n < 7) (R : Fin 256) (d : Fin 512),
    av n hn (ix2 R d) = ((spread inA g R.val ⟨512 * n + d.val, by omega⟩ : ℝ) : EReal))

include hpt hx hav in
/-- One store writes the difference at its place. -/
theorem outAt_apply (n : Nat) (hn : n < 7) (y : (outAt pt arg2 harg2 x1 av n hn).1.shape.Idx) :
    (outAt pt arg2 harg2 x1 av n hn).2 y = lift (outR X f g) ((outAt pt arg2 harg2 x1 av n hn).1.emb y) := by
  obtain ⟨m, d, rfl⟩ : ∃ (m d : Fin 512), y = ix2 m d := ⟨y 0, y 1, eq_ix2 (n0 := 512) (n1 := 512) y⟩
  have hd : (Rect.unit (s := S512x3584) ![0, 512 * n] S512x512.size (inbX n hn)).toLoadRect.idx (ix2 m d)
      = ix2 m ⟨512 * n + d.val, by omega⟩ := by
    funext a
    match a with
    | ⟨0, _⟩ => exact Fin.ext (by show 0 + 1 * m.val = m.val; omega)
    | ⟨1, _⟩ => exact Fin.ext (by show 512 * n + 1 * d.val = 512 * n + d.val; omega)
  have he : (outAt pt arg2 harg2 x1 av n hn).1.emb (ix2 m d) = ix2 m ⟨512 * n + d.val, by omega⟩ := hd
  rw [he, lift_ix2]
  show minusOf (F := Ideal) pt _ (av n hn) (ix2 m d) = _
  unfold minusOf
  rw [truncf_apply, subf_apply, extf_apply, harg2.readAt_unread, hd, hx, lift_ix2]
  have hm : matmul (F := Ideal) (φ₁ := .bf16) (φ₂ := .bf16) dot_S512x256_S256x512_S512x512_1_0_0_1_n_n none pt (av n hn) (constant S512x512 .f32 0x00000000#32) (ix2 m d)
      = ((∑ R : Fin 256, partR X f m.val R.val * spread inA g R.val ⟨512 * n + d.val, by omega⟩ : ℝ) : EReal) := by
    show Ideal.matmul dot_S512x256_S256x512_S512x512_1_0_0_1_n_n pt (av n hn) (constant (F := Ideal) S512x512 .f32 0x00000000#32) (ix2 m d) = _
    unfold Ideal.matmul
    rw [show (constant (F := Ideal) S512x512 .f32 0x00000000#32 : FVec Ideal S512x512 .f32) (ix2 m d) = 0 from by
      simp [constant_apply, Ideal.ofBits, Ideal.ieee], zero_add]
    rw [← Equiv.sum_comp (contrEquiv1 dot_S512x256_S256x512_S512x512_1_0_0_1_n_n 256 rfl rfl).symm, coe_sum]
    refine Finset.sum_congr rfl fun R _ => ?_
    rw [EReal.coe_mul, ← hpt m R, ← hav n hn R d]
    congr 2
    · funext a
      match a with
      | ⟨0, _⟩ => rfl
      | ⟨1, _⟩ => rfl
    · funext a
      match a with
      | ⟨0, _⟩ => rfl
      | ⟨1, _⟩ => rfl
  rw [hm, ← EReal.coe_sub]
  rfl

include hpt hx hav in
/-- So do all of them. -/
theorem outs_apply : ∀ (n : Nat) (h : n ≤ 7), ∀ pc ∈ outs pt arg2 harg2 x1 av n h, ∀ y : pc.1.shape.Idx,
    pc.2 y = lift (outR X f g) (pc.1.emb y)
  | 0, _, pc, hpc, y => by simp [outs] at hpc
  | n + 1, h, pc, hpc, y => by
    unfold outs at hpc
    rcases List.mem_cons.mp hpc with rfl | hpc
    · exact outAt_apply X f g pt hpt arg2 harg2 x1 hx av hav n h y
    · exact outs_apply n _ pc hpc y

end Out

section Cases

variable (U : Fin 20 → Fin 3584 → ℝ) (X : ℕ → Fin 3584 → ℝ)
  (c : Dev nD) (i : grid0.Coords) (arg1 : Memref sig .tc .vmem S20x3584 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S24x3584 .f32) (harg4 : arg4.IsWhole) (arg5 : Memref sig .tc .vmem S24x3584 .f32) (harg5 : arg5.IsWhole) (arg6 : Memref sig .tc .vmem S256x3584 .bf16) (harg6 : arg6.IsWhole) (arg7 : Memref sig .tc .vmem S256x3584 .bf16) (harg7 : arg7.IsWhole)
  (x0 : Vec Ideal S20x3584 .f32) (x1 : Vec Ideal S512x3584 .bf16) (hx : Normed x0 U) (hx1 : x1 = lift X)

include hx in
/-- The filling case leaves the spread unit rows in the first scratch. -/
theorem sout_A_2 (hc0 : cond0_0 i) :
    sout0_A_2 (F := Ideal) c i arg1 harg1 arg2 harg2 arg3 harg3 arg4 harg4 arg5 harg5 arg6 harg6 arg7 harg7 hc0 x0 x1
      = lift (spread inU (unitR U)) := by
  unfold sout0_A_2
  rw [View.read_writes_eq_canon _ _ _ (scover0_A_2 c i arg1 harg1 arg2 harg2 arg3 harg3 arg4 harg4 arg5 harg5 arg6 harg6 arg7 harg7 hc0 x0 x1)]
  exact canon_uc U c i arg1 harg1 arg2 harg2 arg3 harg3 arg4 harg4 arg5 harg5 arg6 harg6 arg7 harg7 hc0 x0 x1 hx

include hx in
/-- The filling case leaves the spread second rows in the second scratch. -/
theorem sout_A_3 (hc0 : cond0_0 i) :
    sout0_A_3 (F := Ideal) c i arg1 harg1 arg2 harg2 arg3 harg3 arg4 harg4 arg5 harg5 arg6 harg6 arg7 harg7 hc0 x0 x1
      = lift (spread inA (rowsR U 19)) := by
  unfold sout0_A_3
  rw [View.read_writes_eq_canon _ _ _ (scover0_A_3 c i arg1 harg1 arg2 harg2 arg3 harg3 arg4 harg4 arg5 harg5 arg6 harg6 arg7 harg7 hc0 x0 x1)]
  exact canon_ar U c i arg1 harg1 arg2 harg2 arg3 harg3 arg4 harg4 arg5 harg5 arg6 harg6 arg7 harg7 hc0 x0 x1 hx

theorem tail_idx (n : Nat) (hn : n < 7) (R : Fin 256) (d : Fin 512) :
    (Rect.unit (s := S256x3584) ![0, 512 * n] S256x512.size (inbR n hn)).toLoadRect.idx (ix2 R d) = ix2 R ⟨512 * n + d.val, by omega⟩ := by
  funext a
  match a with
  | ⟨0, _⟩ => exact Fin.ext (by show 0 + 1 * R.val = R.val; omega)
  | ⟨1, _⟩ => exact Fin.ext (by show 512 * n + 1 * d.val = 512 * n + d.val; omega)

include hx1 in
/-- The other case stores the difference made from the two scratch arrays as it found them. -/
theorem out_B (f g : ℕ → Fin 3584 → ℝ) (hc0 : ¬cond0_0 i) (xs2 xs3 : Vec Ideal S256x3584 .bf16)
    (h2 : xs2 = lift (spread inU f)) (h3 : xs3 = lift (spread inA g)) :
    out0_B_2 (F := Ideal) c i arg1 harg1 arg2 harg2 arg3 harg3 arg4 harg4 arg5 harg5 arg6 harg6 arg7 harg7 hc0 x0 x1 xs2 xs3
      = lift (outR X f g) := by
  unfold out0_B_2
  rw [View.read_writes_eq_canon _ _ _ (cover0_B_2 c i arg1 harg1 arg2 harg2 arg3 harg3 arg4 harg4 arg5 harg5 arg6 harg6 arg7 harg7 hc0 x0 x1 xs2 xs3)]
  funext y
  refine View.canon_apply_of_pieces (lift (outR X f g)) _ ?_ y
    (cover0_B_2 c i arg1 harg1 arg2 harg2 arg3 harg3 arg4 harg4 arg5 harg5 arg6 harg6 arg7 harg7 hc0 x0 x1 xs2 xs3 y)
  have e : (kernelRun0_B (F := Ideal) c i arg1 harg1 arg2 harg2 arg3 harg3 arg4 harg4 arg5 harg5 arg6 harg6 arg7 harg7 hc0 x0 x1 xs2 xs3).1
      = outs (partsOf
          (View.readAt (Elt Ideal) arg2.view (Rect.unit (s := S512x3584) ![0, 0] S512x3584.size inb_S512x3584_S512x3584_0_0).toLoadRect (harg2.unread x1))
          (View.readAt (Elt Ideal) arg6.view (Rect.unit (s := S256x3584) ![0, 0] S256x3584.size inb_S256x3584_S256x3584_0_0).toLoadRect (harg6.unread xs2)))
        arg2 harg2 x1
        (fun n hn => View.readAt (Elt Ideal) arg7.view (Rect.unit (s := S256x3584) ![0, 512 * n] S256x512.size (inbR n hn)).toLoadRect (harg7.unread xs3))
        7 (Nat.le_refl 7) := rfl
  rw [e]
  refine outs_apply X f g _ (parts_apply X f _ _ ?_ ?_) arg2 harg2 x1 hx1 _ ?_ 7 _
  · rw [← hx1]
    funext z
    rw [harg2.readAt_unread]
    exact congrArg x1 (whole_idx _ z)
  · rw [← h2]
    funext z
    rw [harg6.readAt_unread]
    exact congrArg xs2 (whole_idx _ z)
  · intro n hn R d
    dsimp only
    rw [harg7.readAt_unread, tail_idx n hn R d, h3]
    rfl

include hx hx1 in
/-- The filling case stores the difference made from what it has just filled in. -/
theorem out_A (hc0 : cond0_0 i) :
    out0_A_2 (F := Ideal) c i arg1 harg1 arg2 harg2 arg3 harg3 arg4 harg4 arg5 harg5 arg6 harg6 arg7 harg7 hc0 x0 x1
      = lift (outR X (unitR U) (rowsR U 19)) := by
  unfold out0_A_2
  rw [View.read_writes_eq_canon _ _ _ (cover0_A_2 c i arg1 harg1 arg2 harg2 arg3 harg3 arg4 harg4 arg5 harg5 arg6 harg6 arg7 harg7 hc0 x0 x1)]
  funext y
  refine View.canon_apply_of_pieces (lift (outR X (unitR U) (rowsR U 19))) _ ?_ y
    (cover0_A_2 c i arg1 harg1 arg2 harg2 arg3 harg3 arg4 harg4 arg5 harg5 arg6 harg6 arg7 harg7 hc0 x0 x1 y)
  have e : (kernelRun0_A (F := Ideal) c i arg1 harg1 arg2 harg2 arg3 harg3 arg4 harg4 arg5 harg5 arg6 harg6 arg7 harg7 hc0 x0 x1).1
      = outs (partsOf
          (View.readAt (Elt Ideal) arg2.view (Rect.unit (s := S512x3584) ![0, 0] S512x3584.size inb_S512x3584_S512x3584_0_0).toLoadRect (harg2.unread x1))
          (arg6.view.readCov (kernelRun0_A (F := Ideal) c i arg1 harg1 arg2 harg2 arg3 harg3 arg4 harg4 arg5 harg5 arg6 harg6 arg7 harg7 hc0 x0 x1).2.1 (Rect.unit (s := S256x3584) ![0, 0] S256x3584.size inb_S256x3584_S256x3584_0_0).toLoadRect))
        arg2 harg2 x1
        (fun n hn => arg7.view.readCov (kernelRun0_A (F := Ideal) c i arg1 harg1 arg2 harg2 arg3 harg3 arg4 harg4 arg5 harg5 arg6 harg6 arg7 harg7 hc0 x0 x1).2.2.1 (Rect.unit (s := S256x3584) ![0, 512 * n] S256x512.size (inbR n hn)).toLoadRect)
        7 (Nat.le_refl 7) := rfl
  rw [e]
  refine outs_apply X (unitR U) (rowsR U 19) _ (parts_apply X (unitR U) _ _ ?_ ?_) arg2 harg2 x1 hx1 _ ?_ 7 _
  · rw [← hx1]
    funext z
    rw [harg2.readAt_unread]
    exact congrArg x1 (whole_idx _ z)
  · rw [View.readCov_eq_canon', canon_uc U c i arg1 harg1 arg2 harg2 arg3 harg3 arg4 harg4 arg5 harg5 arg6 harg6 arg7 harg7 hc0 x0 x1 hx]
    funext z
    exact congrArg (lift (spread inU (unitR U))) (whole_idx _ z)
  · intro n hn R d
    dsimp only
    rw [View.readCov_eq_canon', canon_ar U c i arg1 harg1 arg2 harg2 arg3 harg3 arg4 harg4 arg5 harg5 arg6 harg6 arg7 harg7 hc0 x0 x1 hx]
    dsimp only
    rw [tail_idx n hn R d]
    rfl

end Cases

end Cert.ProjectIdeal.Gen

end
-- ==== Proof.ProjArray.lean ====
/- What the result array of `hra_project` holds after the run, where `x` and the unit rows are real numbers: at row `a` and column `d` the element `x[a, d]` minus the product of row `a` of `x·uhᵀ` with column `d` of
   the second rows.

   Both scratch arrays keep what the first point has filled in (`scratch_eq`), so every point leaves the same function
   of its block of rows in the output block (`block_eq`), and `G2_apply` reads the array at an index. -/
module

public import proofs.«01_k».proof.Proof.ProjBlock
public import proofs.«01_k».proof.Proof.Gen.ProjectIdeal.Value

@[expose] public section

set_option maxRecDepth 16384

noncomputable section

namespace Cert.ProjectIdeal.Gen

open Idealize.ShloMosaic Idealize.ShloMosaic.TcCoe Idealize.ShloMosaic.Tactic Idealize.ShloMosaic.ValueIdx
open Cert.Proj
open scoped BigOperators

variable (m : (ℓ : Loc nD τ sig) → Buf (Elt Ideal) ℓ) (c : Dev nD)

abbrev uIn : Vec Ideal S20x3584 .f32 := m ((c : Thread nD τ).loc main_arg0)
abbrev xIn : Vec Ideal S12288x3584 .bf16 := m ((c : Thread nD τ).loc main_arg1)

theorem lt_N (t : Fin cfg0.N) : t.val < 24 := lt_of_lt_of_eq t.isLt N_0

/-- The printed index maps of the inputs, decided over the grid. -/
theorem idx_in : ∀ t : Fin cfg0.N,
    win0_0.index t (0 : Fin 2) = 0 ∧ win0_0.index t (1 : Fin 2) = 0
    ∧ win0_1.index t (0 : Fin 2) = t.val ∧ win0_1.index t (1 : Fin 2) = 0 :=
  (by decide +kernel : ∀ t : Fin grid0.N, _)

/-- Every point reads the whole of `u`. -/
theorem iblk0_apply (t : Fin cfg0.N) (r : Fin 20) (k : Fin 3584) : iblk m c 0 t (ix2 r k) = uIn m c (ix2 r k) := by
  obtain ⟨e0, e1, -⟩ := idx_in t
  unfold iblk
  rw [View.read_apply, cast_eq]
  refine congrArg (uIn m c) (funext fun d => ?_)
  match d with
  | ⟨0, _⟩ => exact Fin.ext (by show win0_0.index t (0 : Fin 2) * 20 + 1 * r.val = r.val; rw [e0]; omega)
  | ⟨1, _⟩ => exact Fin.ext (by show win0_0.index t (1 : Fin 2) * 3584 + 1 * k.val = k.val; rw [e1]; omega)

/-- The row block of a point. -/
theorem iblk1_apply (t : Fin cfg0.N) (r : Fin 512) (k : Fin 3584) :
    iblk m c 1 t (ix2 r k) = xIn m c (ix2 ⟨512 * t.val + r.val, by have := lt_N t; omega⟩ k) := by
  obtain ⟨-, -, e0, e1⟩ := idx_in t
  unfold iblk
  rw [View.read_apply, cast_eq]
  refine congrArg (xIn m c) (funext fun d => ?_)
  match d with
  | ⟨0, _⟩ => exact Fin.ext (by show win0_1.index t (0 : Fin 2) * 512 + 1 * r.val = 512 * t.val + r.val; rw [e0]; omega)
  | ⟨1, _⟩ => exact Fin.ext (by show win0_1.index t (1 : Fin 2) * 3584 + 1 * k.val = k.val; rw [e1]; omega)

variable (U : Fin 20 → Fin 3584 → ℝ) (X : ℕ → Fin 3584 → ℝ)
  (hu : Normed (uIn m c) U) (hX : xIn m c = lift X)

include hu in
theorem iblk0_normed (t : Fin cfg0.N) : Normed (iblk m c 0 t) U := by
  intro r k
  have e := hu r k
  have e0 : ∀ (r : Fin 20) (k : Fin 3584), iblk m c 0 t (ix2 r k) = uIn m c (ix2 r k) := iblk0_apply m c t
  simpa only [e0] using e

include hX in
theorem iblk1_real (t : Fin cfg0.N) : iblk m c 1 t = lift (fun r => X (512 * t.val + r)) := by
  funext y
  obtain ⟨r, k, rfl⟩ : ∃ (r : Fin 512) (k : Fin 3584), y = ix2 r k := ⟨y 0, y 1, eq_ix2 (n0 := 512) (n1 := 3584) y⟩
  exact (iblk1_apply m c t r k).trans (congrFun hX _)

include hu in
/-- Both scratch arrays after a point. -/
theorem scratch_eq : ∀ (n : Nat) (hn : n < cfg0.N),
    (outsAt0 m c n hn).2 = (lift (spread inU (unitR U)), lift (spread inA (rowsR U 19)))
  | 0, hn => by
    rw [outsAt0_A m c ⟨0, hn⟩ (Nat.zero_mod _)]
    dsimp only
    rw [sout_A_2 U _ _ _ _ _ _ _ _ _ _ _ _ _ _ _ _ _ _ (iblk0_normed m c U hu ⟨0, hn⟩),
      sout_A_3 U _ _ _ _ _ _ _ _ _ _ _ _ _ _ _ _ _ _ (iblk0_normed m c U hu ⟨0, hn⟩)]
  | n + 1, hn => by
    have h0 : ¬(n + 1) % 24 = 0 := by have := lt_N ⟨n + 1, hn⟩; dsimp only at this; omega
    rw [outsAt0_B m c ⟨n + 1, hn⟩ h0]
    exact scratch_eq n (Nat.lt_of_succ_lt hn)

include hu hX in
/-- The block that a point leaves in the output's buffer. -/
theorem block_eq (t : Fin cfg0.N) :
    (outsAt0 m c t.val t.isLt).1 = lift (outR (fun r => X (512 * t.val + r)) (unitR U) (rowsR U 19)) := by
  by_cases h0 : t.val % 24 = 0
  · rw [outsAt0_A m c t h0]
    dsimp only
    rw [out_A U _ _ _ _ _ _ _ _ _ _ _ _ _ _ _ _ _ _ _ (iblk0_normed m c U hu t) (iblk1_real m c X hX t)]
  · rw [outsAt0_B m c t h0]
    dsimp only
    have hs := scratch_eq m c U hu (t.val - 1) (Nat.lt_of_le_of_lt (Nat.sub_le _ _) t.isLt)
    exact out_B _ _ _ _ _ _ _ _ _ _ _ _ _ _ _ _ _ _ _ (iblk1_real m c X hX t) _ _ _ _ _ (congrArg Prod.fst hs) (congrArg Prod.snd hs)

include hu hX in
/-- The result array at an index. -/
theorem G2_apply (a : Fin 12288) (d : Fin 3584) :
    Value.G2 m c (ix2 a d)
      = ((X a.val d - ∑ r ∈ Finset.range 20, (∑ k, X a.val k * unitR U r k) * rowsR U 19 r d : ℝ) : EReal) := by
  have hp : Value.pt2Of (ix2 a d) = a.val / 512 := by
    have := d.isLt
    show 1 * (a.val / 512 - 0) + 1 * (d.val / 3584 - 0) = _; omega
  have hlt : Value.pt2Of (ix2 a d) < cfg0.N := lt_of_lt_of_eq (by rw [hp]; omega) N_0.symm
  unfold Value.G2
  rw [dif_pos hlt, ← Value.outsAt0_sweep m c (Value.pt2Of (ix2 a d)) hlt]
  rw [block_eq m c U X hu hX ⟨Value.pt2Of (ix2 a d), hlt⟩]
  have hz : ∀ r, 20 ≤ r → ∀ k, unitR U r k = 0 := fun r hr k => by unfold unitR; rw [dif_neg (by omega)]
  have e := pad_sum (fun r => X (512 * Value.pt2Of (ix2 a d) + r)) (unitR U) (rowsR U 19) hz (a.val % 512) d
  show ((outR (fun r => X (512 * Value.pt2Of (ix2 a d) + r)) (unitR U) (rowsR U 19) (a.val % 512) ⟨d.val % 3584, _⟩ : ℝ) : EReal) = _
  have ed : (⟨d.val % 3584, Nat.mod_lt _ (by decide)⟩ : Fin 3584) = d := Fin.ext (Nat.mod_eq_of_lt d.isLt)
  rw [ed, e]
  have ea : 512 * Value.pt2Of (ix2 a d) + a.val % 512 = a.val := by rw [hp]; omega
  rw [ea]

end Cert.ProjectIdeal.Gen

end
-- ==== Proof.ProjPre.lean ====
/- What the precondition gives: `x` is an array of real numbers, and so are the unit rows. An element of `u` may be
   infinite; the row's unit row is then zero. -/
module

public import proofs.«01_k».proof.Defs
public import proofs.«01_k».proof.Proof.Gen.Pre_tame
public import proofs.«01_k».proof.Proof.ProjArray

@[expose] public section

set_option maxRecDepth 16384

noncomputable section

namespace Cert.ProjectIdeal.Gen

open Idealize.ShloMosaic Idealize.ShloMosaic.TcCoe Idealize.ShloMosaic.ValueIdx
open Cert.Proj
open scoped BigOperators

theorem sq_nonneg (a : EReal) : 0 ≤ a * a := by
  induction a using EReal.rec with
  | bot => simp
  | coe r => rw [← EReal.coe_mul]; exact_mod_cast mul_self_nonneg r
  | top => simp

/-- A row whose sum of squares is positive, divided by the square root of that sum, is real. -/
theorem normed_row (v : Fin 3584 → EReal) (h : 0 < ∑ j, v j * v j) (k : Fin 3584) :
    ∃ w : ℝ, Ideal.div (v k) (Ideal.sqrt (∑ j, v j * v j)) = ((w : ℝ) : EReal) := by
  by_cases hs : ∑ j, v j * v j = ⊤
  · refine ⟨0, ?_⟩
    rw [hs]
    show Ideal.div (v k) ⊤ = _
    unfold Ideal.div
    rw [if_neg (by simp), EReal.inv_top, mul_zero]
    rfl
  · have hle : v k * v k ≤ ∑ j, v j * v j :=
      Finset.single_le_sum (f := fun j => v j * v j) (fun j _ => sq_nonneg (v j)) (Finset.mem_univ k)
    have ht : v k ≠ ⊤ := fun e => hs (top_le_iff.mp (by rw [e] at hle; simpa using hle))
    have hb : v k ≠ ⊥ := fun e => hs (top_le_iff.mp (by rw [e] at hle; simpa using hle))
    obtain ⟨s, es⟩ : ∃ s : ℝ, ∑ j, v j * v j = ((s : ℝ) : EReal) :=
      ⟨_, (EReal.coe_toReal hs (by intro e; rw [e] at h; simp at h)).symm⟩
    obtain ⟨w, ew⟩ : ∃ w : ℝ, v k = ((w : ℝ) : EReal) := ⟨_, (EReal.coe_toReal ht hb).symm⟩
    rw [es] at h
    have hp : 0 < s := by exact_mod_cast h
    refine ⟨w * (1 / Real.sqrt s), ?_⟩
    rw [es, ew, Ideal.sqrt_coe, if_neg (not_lt.mpr hp.le), Ideal.div_coe (Real.sqrt_pos.mpr hp).ne', ← EReal.coe_mul]

theorem of_olt {a b : EReal} (h : Ideal.cmp .olt a b = 1#1) : a < b := by
  by_contra hn
  simp [Ideal.cmp, hn] at h

theorem of_ogt {a b : EReal} (h : Ideal.cmp .ogt a b = 1#1) : b < a := by
  by_contra hn
  simp [Ideal.cmp, hn] at h

theorem inf_bf16 : Ideal.ofBits .bf16 0x7F80#16 = ⊤ := by
  simp [Ideal.ofBits, Ideal.ieee]

/-- The precondition, read. -/
theorem of_tame (m : (ℓ : Loc nD τ sig) → Buf (Elt Ideal) ℓ) (h : Cert.Pre_ProjectIdeal_tame m) (c : Dev nD) :
    ∃ (U : Fin 20 → Fin 3584 → ℝ) (X : ℕ → Fin 3584 → ℝ), Normed (uIn m c) U ∧ xIn m c = lift X := by
  obtain ⟨hx, hu⟩ := h c
  have hx' : ∀ (a : Fin 12288) (k : Fin 3584), ∃ w : ℝ, xIn m c (ix2 a k) = ((w : ℝ) : EReal) := fun a k => by
    have e : Ideal.cmp .olt (max (xIn m c (ix2 a k)) (-xIn m c (ix2 a k))) (Ideal.ofBits .bf16 0x7F80#16) = 1#1 :=
      congrFun hx (ix2 a k)
    rw [inf_bf16] at e
    have l := of_olt e
    refine ⟨_, (EReal.coe_toReal (fun e => ?_) (fun e => ?_)).symm⟩
    · rw [e] at l; simp at l
    · rw [e] at l; simp at l
  have hu' : ∀ (r : Fin 20) (k : Fin 3584), ∃ w : ℝ,
      Ideal.div (uIn m c (ix2 r k)) (Ideal.sqrt (∑ j, uIn m c (ix2 r j) * uIn m c (ix2 r j))) = ((w : ℝ) : EReal) := fun r k => by
    refine normed_row (fun j => uIn m c (ix2 r j)) ?_ k
    have e : Ideal.cmp .ogt (Ideal.hostReduceAdd Cert.Pre_tame.Facts.reducesTo_S20x3584_S20_d1
        (mulf (F := Ideal) (φ := .f32) (uIn m c) (uIn m c)) (Ideal.ofBits .f32 0x00000000#32) (ix1 r)) (Ideal.ofBits .f32 0x00000000#32) = 1#1 :=
      congrFun hu (ix1 r)
    have l := of_ogt e
    rw [Ideal.hostReduceAdd_single _ (by decide), zero_f32, EReal.coe_zero, zero_add] at l
    refine lt_of_lt_of_eq l (Finset.sum_congr rfl fun j _ => ?_)
    have : (by decide : S20x3584.Reduces [1] S20).lift (ix1 r) j = ix2 r j := by
      funext d
      match d with
      | ⟨0, _⟩ => rfl
      | ⟨1, _⟩ => rfl
    rw [this]
    rfl
  choose U hU using hu'
  choose X hX using hx'
  refine ⟨U, fun a k => if h : a < 12288 then X ⟨a, h⟩ k else 0, hU, ?_⟩
  funext y
  obtain ⟨a, k, rfl⟩ : ∃ (a : Fin 12288) (k : Fin 3584), y = ix2 a k := ⟨y 0, y 1, eq_ix2 (n0 := 12288) (n1 := 3584) y⟩
  rw [lift_ix2, hX, dif_pos a.isLt]

end Cert.ProjectIdeal.Gen

end
-- ==== Proof.ProjRef.lean ====
/- What the reference of `hra_project` computes, where `x` and the unit rows are real numbers.

   Its loop solves the triangular system row by row: after `n` trips the carried matrix is `back … n` (`state_apply`).
   `result_apply` reads its result at an index: `x[a, d]` minus row `a` of `x·uhᵀ` times the solved matrix times column
   `d` of the unit rows. -/
module

public import proofs.«01_k».proof.Proof.ProjPrep
public import proofs.«01_k».proof.Proof.Gen.ProjectReferenceIdeal.StepRun
public import Idealize.ShloMosaic.PureOps.Ideal.Laws
public import Idealize.ShloMosaic.Lib.StackMember
public import Idealize.ShloMosaic.Lib.Pointwise.ShapeOpsCore

@[expose] public section

set_option maxRecDepth 16384

noncomputable section

namespace Cert.ProjectReferenceIdeal.Value

open Cert.ProjectReferenceIdeal Cert.ProjectReferenceIdeal.Gen Cert.ProjectReferenceIdeal.Step
open Idealize.ShloMosaic.TcCoe Idealize.ShloMosaic.ValueIdx
open Idealize.ShloMosaic hiding ix1 ix2 ix3
open Cert.Proj
open Cert.ProjectIdeal.Gen (Normed lift lift_ix2 zero_f32)
open scoped BigOperators

theorem half_f32 : Ideal.ofBits .f32 0x3F000000#32 = ((1 / 2 : ℝ) : EReal) := by
  simp [Ideal.ofBits, Ideal.ieee, -EReal.coe_mul]; norm_num

variable (U : Fin 20 → Fin 3584 → ℝ) (u : FVec Ideal S20x3584 .f32) (hu : Normed u U)

include hu in
/-- The unit rows at an index. -/
theorem unit_apply (r : Fin 20) (k : Fin 3584) : A_main_v5 (F := Ideal) u (ix2 r k) = ((unitR U r.val k : ℝ) : EReal) := by
  unfold A_main_v5
  show Ideal.div (u (ix2 r k)) (A_main_v4 (F := Ideal) u (ix2 r k)) = _
  have h4 : A_main_v4 (F := Ideal) u (ix2 r k) = A_main_v3 (F := Ideal) u (ix2 r 0) :=
    broadcastInDim_apply _ _ _ _ (ix2 r 0) (fun a => by match a with | ⟨0, _⟩ => rfl | ⟨1, _⟩ => rfl)
  have h2 : A_main_v2 (F := Ideal) u (ix2 r 0) = A_main_v1 (F := Ideal) u (ix1 r) :=
    broadcastInDim_apply _ _ _ _ (ix1 r) (fun a => by match a with | ⟨0, _⟩ => rfl)
  have h1 : A_main_v1 (F := Ideal) u (ix1 r) = ∑ j, u (ix2 r j) * u (ix2 r j) := by
    refine (Ideal.hostReduceAdd_single reducesTo_S20x3584_S20_d1 (by decide) _ _ _).trans ?_
    rw [show (K_main_cst (F := Ideal)) _ = (0 : EReal) from zero_f32, zero_add]
    refine Finset.sum_congr rfl fun j _ => ?_
    have : (by decide : S20x3584.Reduces [1] S20).lift (ix1 r) j = ix2 r j := by
      funext d
      match d with
      | ⟨0, _⟩ => rfl
      | ⟨1, _⟩ => rfl
    rw [this]
    rfl
  have h3 : A_main_v3 (F := Ideal) u (ix2 r 0) = Ideal.sqrt (A_main_v2 (F := Ideal) u (ix2 r 0)) := rfl
  rw [h4, h3, h2, h1, hu]
  unfold unitR
  rw [dif_pos r.isLt]

include hu in
/-- The inner products of the unit rows. -/
theorem gram_apply (i l : Fin 20) : A_main_v7 (F := Ideal) u (ix2 i l) = ((gramR U i.val l.val : ℝ) : EReal) := by
  unfold A_main_v7 gramR
  refine (StackMember.dotGeneral_plain_apply (m := 20) (n := 20) (k := 3584) _ _ _ i l).trans ?_
  rw [coe_sum]
  refine Finset.sum_congr rfl fun k _ => ?_
  have ht : A_main_v6 (F := Ideal) u (ix2 k l) = A_main_v5 (F := Ideal) u (ix2 l k) := by
    unfold A_main_v6
    refine transpose_apply _ _ _ _ _ ?_
    intro a
    match a with
    | ⟨0, _⟩ => rfl
    | ⟨1, _⟩ => rfl
  rw [ht, unit_apply U u hu, unit_apply U u hu, EReal.coe_mul]

theorem word_eq : ∀ i l : Fin 20, IntOp.cmpi .eq (IntOp.addi (BitVec.ofNat 32 i.val) 0#32) (BitVec.ofNat 32 l.val)
    = if i.val = l.val then 1#1 else 0#1 := by decide +kernel

theorem word_ge : ∀ i l : Fin 20, IntOp.cmpi .sge (IntOp.addi (BitVec.ofNat 32 i.val) 0#32) (BitVec.ofNat 32 l.val)
    = if i.val < l.val then 0#1 else 1#1 := by decide +kernel

theorem word_row : ∀ i n : Fin 20, IntOp.cmpi .eq (BitVec.ofNat 32 i.val) (IntOp.subi 19#32 (BitVec.ofNat 32 n.val))
    = if i.val = 19 - n.val then 1#1 else 0#1 := by decide +kernel

theorem uitofp_bit (p : Prop) [Decidable p] :
    (((if p then 1#1 else 0#1 : BitVec 1).toNat : ℝ) : EReal) = (((if p then 1 else 0 : ℝ)) : EReal) := by
  by_cases h : p <;> simp [h]

/-- The identity matrix, twice made. -/
theorem eye_apply (i l : Fin 20) : K_main_v23 (F := Ideal) (ix2 i l) = (((if i.val = l.val then 1 else 0 : ℝ)) : EReal) := by
  rw [← uitofp_bit, ← word_eq]
  rfl

theorem eye_apply' (i l : Fin 20) : K_main_v13 (F := Ideal) (ix2 i l) = (((if i.val = l.val then 1 else 0 : ℝ)) : EReal) := by
  rw [← uitofp_bit, ← word_eq]
  rfl

include hu in
/-- The triangular matrix. -/
theorem tri_apply (i l : Fin 20) : A_main_v17 (F := Ideal) u (ix2 i l) = ((tri (gramR U) i.val l.val : ℝ) : EReal) := by
  have e : A_main_v17 (F := Ideal) u (ix2 i l)
      = Ideal.ofBits .f32 0x3F000000#32 * K_main_v13 (F := Ideal) (ix2 i l)
        + Scalar.select (IntOp.cmpi .sge (IntOp.addi (BitVec.ofNat 32 i.val) 0#32) (BitVec.ofNat 32 l.val))
          (Ideal.ofBits .f32 0x00000000#32) (A_main_v7 (F := Ideal) u (ix2 i l)) := rfl
  rw [e, half_f32, zero_f32, eye_apply', gram_apply U u hu, word_ge, ← EReal.coe_mul]
  unfold tri
  rw [EReal.coe_add]
  congr 1
  · by_cases h : i.val = l.val
    · rw [if_pos h, if_pos h, mul_one]
    · rw [if_neg h, if_neg h, mul_zero]
  · by_cases h : i.val < l.val
    · rw [if_pos h, if_pos h]; rfl
    · rw [if_neg h, if_neg h]; rfl

include hu in
/-- Its diagonal is one half. -/
theorem diag_apply (i : Fin 20) : A_main_v26 (F := Ideal) u (ix2 i 0) = ((1 / 2 : ℝ) : EReal) := by
  have h2 : A_main_v26 (F := Ideal) u (ix2 i 0) = A_main_v25 (F := Ideal) u (ix1 i) :=
    broadcastInDim_apply _ _ _ _ (ix1 i) (fun a => by match a with | ⟨0, _⟩ => rfl)
  rw [h2]
  refine (Ideal.hostReduceAdd_single reducesTo_S20x20_S20_d1 (by decide) _ _ _).trans ?_
  rw [show (K_main_cst_2 (F := Ideal)) _ = (0 : EReal) from zero_f32, zero_add]
  have e : ∀ l : Fin 20, A_main_v24 (F := Ideal) u ((by decide : S20x20.Reduces [1] S20).lift (ix1 i) l)
      = ((if l = i then 1 / 2 else 0 : ℝ) : EReal) := fun l => by
    have : (by decide : S20x20.Reduces [1] S20).lift (ix1 i) l = ix2 i l := by
      funext d
      match d with
      | ⟨0, _⟩ => rfl
      | ⟨1, _⟩ => rfl
    rw [this]
    show A_main_v17 (F := Ideal) u (ix2 i l) * K_main_v23 (F := Ideal) (ix2 i l) = _
    rw [tri_apply U u hu, eye_apply, ← EReal.coe_mul]
    by_cases h : l = i
    · subst h; simp [tri]
    · have : ¬i.val = l.val := fun h' => h (Fin.ext h'.symm)
      rw [if_neg this, mul_zero, if_neg h]
  refine (Finset.sum_congr rfl fun l _ => e l).trans ?_
  refine (coe_sum Finset.univ fun l : Fin 20 => (if l = i then 1 / 2 else 0 : ℝ)).symm.trans ?_
  simp

/-- The states of the reference's loop. -/
def states : ℕ → State Ideal
  | 0 => init u
  | n + 1 => step n (states n)

theorem states_s : ∀ n, (states u n).main_v29_1 = A_main_v17 (F := Ideal) u
  | 0 => rfl
  | n + 1 => states_s n

theorem states_d : ∀ n, (states u n).main_v29_3 = A_main_v26 (F := Ideal) u
  | 0 => rfl
  | n + 1 => states_d n

include hu in
/-- The carried matrix after `n` trips. -/
theorem state_apply : ∀ (n : ℕ) (hn : n ≤ 20) (i k : Fin 20),
    (states u n).main_v29_6 (ix2 i k) = ((back (gramR U) n i.val k.val : ℝ) : EReal)
  | 0, _, i, k => zero_f32
  | n + 1, hn, i, k => by
    have ih := state_apply n (by omega)
    show b12 n (states u n) (ix2 i k) = _
    have h7 : b7 n (states u n) (ix2 i k) = ((∑ l ∈ Finset.range 20, tri (gramR U) i.val l * back (gramR U) n l k.val : ℝ) : EReal) := by
      unfold b7
      refine (StackMember.dotGeneral_plain_apply (m := 20) (n := 20) (k := 20) _ _ _ i k).trans ?_
      rw [← Fin.sum_univ_eq_sum_range (fun l => tri (gramR U) i.val l * back (gramR U) n l k.val) 20, coe_sum]
      refine Finset.sum_congr rfl fun l _ => ?_
      rw [states_s, tri_apply U u hu, ih l k, EReal.coe_mul]
    have h9 : b9 n (states u n) (ix2 i k) = ((1 / 2 : ℝ) : EReal) := by
      refine Eq.trans ?_ (diag_apply U u hu i)
      unfold b9
      rw [states_d]
      exact broadcastInDim_apply _ _ _ _ (ix2 i 0) (fun a => by match a with | ⟨0, _⟩ => rfl | ⟨1, _⟩ => rfl)
    have h11 : b11 n (states u n) (ix2 i k) = if i.val = 19 - n then 1#1 else 0#1 := by
      rw [← word_row i ⟨n, by omega⟩]
      unfold b11
      exact broadcastInDim_apply _ _ _ _ (ix2 i 0) (fun a => by match a with | ⟨0, _⟩ => rfl | ⟨1, _⟩ => rfl)
    have e : b12 n (states u n) (ix2 i k) = Scalar.select (b11 n (states u n) (ix2 i k))
        (Ideal.div (K_main_v23 (F := Ideal) (ix2 i k) - b7 n (states u n) (ix2 i k)) (b9 n (states u n) (ix2 i k)))
        ((states u n).main_v29_6 (ix2 i k)) := rfl
    rw [e, h11, h7, h9, eye_apply, ih i k, ← EReal.coe_sub, Ideal.div_coe (by norm_num), ← EReal.coe_mul]
    rw [back_succ]
    by_cases h : i.val = 19 - n
    · rw [if_pos h, if_pos h]
      exact congrArg (fun z : ℝ => (z : EReal)) (div_eq_mul_one_div _ (1 / 2 : ℝ)).symm
    · rw [if_neg h, if_neg h]; rfl

section Result

variable (X : ℕ → Fin 3584 → ℝ) (x : FVec Ideal S12288x3584 .bf16) (hx : x = lift X)

/-- The product of `x` with the unit rows. -/
abbrev prodP : FVec Ideal S12288x20 .f32 :=
  Host.dotGeneral (F := Ideal) (φ₁ := .f32) (φ₂ := .f32) dot_S12288x3584_S20x3584_S12288x20_1_1_0_0_n_n (some .fp32) (extf .f32 x bitsLt_bf16_f32) (A_main_v5 (F := Ideal) u)

/-- That, times the solved matrix. -/
abbrev prodQ : FVec Ideal S12288x20 .f32 :=
  Host.dotGeneral (F := Ideal) (φ₁ := .f32) (φ₂ := .f32) dot_S12288x20_S20x20_S12288x20_1_0_0_1_n_n (some .fp32) (prodP u x) ((states u 20).main_v29_6)

include hu hx in
theorem prodP_apply (a : Fin 12288) (r : Fin 20) : prodP u x (ix2 a r) = ((∑ k, X a.val k * unitR U r.val k : ℝ) : EReal) := by
  show FloatOps.dotGeneral (F := Ideal) _ _ _ _ _ (ix2 a r) = _
  rw [Ideal.dotGeneral_apply, ← Equiv.sum_comp (contrEquiv1 dot_S12288x3584_S20x3584_S12288x20_1_1_0_0_n_n 3584 rfl rfl).symm, coe_sum]
  refine Finset.sum_congr rfl fun k _ => ?_
  rw [EReal.coe_mul, ← unit_apply U u hu r k, hx]
  congr 2
  funext d
  match d with
  | ⟨0, _⟩ => rfl
  | ⟨1, _⟩ => rfl

include hu hx in
theorem prodQ_apply (a : Fin 12288) (t : Fin 20) : prodQ u x (ix2 a t)
    = ((∑ r ∈ Finset.range 20, (∑ k, X a.val k * unitR U r k) * back (gramR U) 20 r t.val : ℝ) : EReal) := by
  refine (StackMember.dotGeneral_plain_apply (m := 12288) (n := 20) (k := 20) _ _ _ a t).trans ?_
  rw [← Fin.sum_univ_eq_sum_range (fun r => (∑ k, X a.val k * unitR U r k) * back (gramR U) 20 r t.val) 20, coe_sum]
  refine Finset.sum_congr rfl fun r _ => ?_
  rw [EReal.coe_mul, prodP_apply U u hu X x hx, state_apply U u hu 20 (Nat.le_refl 20)]

include hu hx in
/-- The reference's result at an index. -/
theorem result_apply (a : Fin 12288) (d : Fin 3584) : R_main_v41 (F := Ideal) (states u 20) u x (ix2 a d)
    = ((X a.val d - ∑ t ∈ Finset.range 20,
        (∑ r ∈ Finset.range 20, (∑ k, X a.val k * unitR U r k) * back (gramR U) 20 r t) * unitR U t d : ℝ) : EReal) := by
  have e : R_main_v41 (F := Ideal) (states u 20) u x (ix2 a d) = x (ix2 a d)
      - Host.dotGeneral (F := Ideal) (φ₁ := .f32) (φ₂ := .f32) dot_S12288x20_S20x3584_S12288x3584_1_0_0_1_n_n (some .fp32) (prodQ u x) (A_main_v5 (F := Ideal) u) (ix2 a d) := rfl
  have e2 : Host.dotGeneral (F := Ideal) (φ₁ := .f32) (φ₂ := .f32) dot_S12288x20_S20x3584_S12288x3584_1_0_0_1_n_n (some .fp32) (prodQ u x) (A_main_v5 (F := Ideal) u) (ix2 a d)
      = ((∑ t ∈ Finset.range 20,
        (∑ r ∈ Finset.range 20, (∑ k, X a.val k * unitR U r k) * back (gramR U) 20 r t) * unitR U t d : ℝ) : EReal) := by
    refine (StackMember.dotGeneral_plain_apply (m := 12288) (n := 3584) (k := 20) _ _ _ a d).trans ?_
    rw [← Fin.sum_univ_eq_sum_range (fun t => (∑ r ∈ Finset.range 20, (∑ k, X a.val k * unitR U r k) * back (gramR U) 20 r t) * unitR U t d) 20, coe_sum]
    refine Finset.sum_congr rfl fun t _ => ?_
    rw [EReal.coe_mul, prodQ_apply U u hu X x hx, unit_apply U u hu]
  rw [e, e2, hx, lift_ix2, ← EReal.coe_sub]

end Result

end Cert.ProjectReferenceIdeal.Value

end
-- ==== Proof.lean ====
module

public import proofs.«01_k».proof.Defs
public import proofs.«01_k».proof.Proof.Gen.Linear.Frame
public import proofs.«01_k».proof.Proof.Gen.LinearIdeal.Value
public import proofs.«01_k».proof.Proof.Gen.LinearReferenceIdeal.Run
public import proofs.«01_k».proof.Proof.Gen.Project.Frame
public import proofs.«01_k».proof.Proof.Gen.ProjectIdeal.Value
public import proofs.«01_k».proof.Proof.Gen.ProjectReferenceIdeal.StepRun
public import proofs.«01_k».proof.Proof.Gen.Pre_tame
public import proofs.«01_k».proof.Proof.Array
public import proofs.«01_k».proof.Proof.Ref
public import proofs.«01_k».proof.Proof.ProjPre
public import proofs.«01_k».proof.Proof.ProjRef
public import Idealize.ShloMosaic.Adequacy
public import Idealize.ShloMosaic.Init
public import Idealize.ShloMosaic.Lib.Quiescent

@[expose] public section

noncomputable section

namespace Cert.Proof

open Idealize.ShloMosaic Idealize.SL.Sem

theorem quiescent_LinearReferenceIdeal : quiescent_LinearReferenceIdeal := fun m ρ _ =>
  (θ_run Cert.LinearReferenceIdeal.defs _ _).mono (fun r h => ⟨fun c => (h c).2, sem_eq_zero_of_no_sems (by decide) r.2⟩)
    (Cert.LinearReferenceIdeal.Value.run (F := Ideal) m ρ)

theorem algebraic_LinearIdeal_LinearReferenceIdeal : algebraic_LinearIdeal_LinearReferenceIdeal := by
  intro m ρ m' ρ' _ hagree
  refine ⟨_, Cert.LinearIdeal.Value.run (F := Ideal) m ρ, ?_⟩
  refine (θ_run Cert.LinearReferenceIdeal.defs _ _).mono (fun _ h c => ⟨?_, (h c).2⟩) (Cert.LinearReferenceIdeal.Value.run (F := Ideal) m' ρ')
  rw [(h c).1]
  obtain ⟨e0, e1, e2⟩ := hagree c
  funext i
  obtain ⟨a, b, rfl⟩ : ∃ (a : Fin 12288) (b : Fin 18944), i = ValueIdx.ix2 a b :=
    ⟨i 0, i 1, ValueIdx.eq_ix2 (n0 := 12288) (n1 := 18944) i⟩
  rw [e0, e1, e2]
  exact (Cert.LinearReferenceIdeal.Value.result_apply (Cert.LinearIdeal.Gen.zbIn m c) (Cert.LinearIdeal.Gen.codesIn m c)
    (Cert.LinearIdeal.Gen.scalesIn m c) a b).trans (Cert.LinearIdeal.Gen.G3_apply m c (ValueIdx.ix2 a b)).symm

theorem quiescent_ProjectReferenceIdeal : quiescent_ProjectReferenceIdeal := fun m ρ _ =>
  (θ_run Cert.ProjectReferenceIdeal.defs _ _).mono (fun r h => ⟨fun c => (h c).2, sem_eq_zero_of_no_sems (by decide) r.2⟩)
    (Cert.ProjectReferenceIdeal.StepRun.run_iter (F := Ideal) m ρ
      (fun c => Cert.ProjectReferenceIdeal.Value.states (m ((c.tc : Thread Cert.ProjectReferenceIdeal.nD Cert.ProjectReferenceIdeal.τ).loc Cert.ProjectReferenceIdeal.main_arg0)))
      (fun _ => rfl) (fun _ _ => rfl))

theorem algebraic_ProjectIdeal_ProjectReferenceIdeal_pre_tame : algebraic_ProjectIdeal_ProjectReferenceIdeal_pre_tame := by
  intro m ρ m' ρ' hpre hagree
  refine ⟨_, Cert.ProjectIdeal.Value.run (F := Ideal) m ρ, ?_⟩
  refine (θ_run Cert.ProjectReferenceIdeal.defs _ _).mono (fun _ h c => ⟨?_, (h c).2⟩)
    (Cert.ProjectReferenceIdeal.StepRun.run_iter (F := Ideal) m' ρ'
      (fun c => Cert.ProjectReferenceIdeal.Value.states (m' ((c.tc : Thread Cert.ProjectReferenceIdeal.nD Cert.ProjectReferenceIdeal.τ).loc Cert.ProjectReferenceIdeal.main_arg0)))
      (fun _ => rfl) (fun _ _ => rfl))
  rw [(h c).1]
  obtain ⟨e0, e1⟩ := hagree c
  obtain ⟨U, X, hu, hx⟩ := Cert.ProjectIdeal.Gen.of_tame m hpre c
  funext i
  obtain ⟨a, d, rfl⟩ : ∃ (a : Fin 12288) (d : Fin 3584), i = ValueIdx.ix2 a d :=
    ⟨i 0, i 1, ValueIdx.eq_ix2 (n0 := 12288) (n1 := 3584) i⟩
  rw [e0, e1]
  refine (Cert.ProjectReferenceIdeal.Value.result_apply U (Cert.ProjectIdeal.Gen.uIn m c) hu X (Cert.ProjectIdeal.Gen.xIn m c) hx a d).trans ?_
  rw [← Cert.Proj.combined (Cert.Proj.gramR U) (fun t => Cert.Proj.unitR U t d) (fun r => ∑ k, X a.val k * Cert.Proj.unitR U r k)]
  exact (Cert.ProjectIdeal.Gen.G2_apply m c U X hu hx a d).symm

theorem claim : Cert.Claim := ⟨Cert.Linear.Gen.facts, Cert.LinearIdeal.Gen.facts, Cert.LinearReferenceIdeal.Gen.facts,
  Cert.Project.Gen.facts, Cert.ProjectIdeal.Gen.facts, Cert.ProjectReferenceIdeal.Gen.facts, Cert.Pre_tame.Gen.facts,
  fun m ρ _ => Cert.Linear.Gen.frame m ρ, fun m ρ _ => Cert.LinearIdeal.Gen.frame m ρ, quiescent_LinearReferenceIdeal,
  fun m ρ _ => Cert.Project.Gen.frame m ρ, fun m ρ _ => Cert.ProjectIdeal.Gen.frame m ρ, fun m ρ _ => Cert.ProjectIdeal.Gen.frame m ρ,
  quiescent_ProjectReferenceIdeal, fun m ρ _ => quiescent_ProjectReferenceIdeal m ρ trivial,
  (trivial : preserves_Linear_LinearIdeal), algebraic_LinearIdeal_LinearReferenceIdeal,
  (trivial : preserves_Project_ProjectIdeal), algebraic_ProjectIdeal_ProjectReferenceIdeal_pre_tame⟩

end Cert.Proof

end
